-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x256x128x128 : Shape := ⟨4, ![8, 256, 128, 128]⟩
abbrev S8x1x8x8 : Shape := ⟨4, ![8, 1, 8, 8]⟩
abbrev S64x256x1x1 : Shape := ⟨4, ![64, 256, 1, 1]⟩
abbrev S64 : Shape := ⟨1, ![64]⟩
abbrev S64x64x3x3 : Shape := ⟨4, ![64, 64, 3, 3]⟩
abbrev S256x64x1x1 : Shape := ⟨4, ![256, 64, 1, 1]⟩
abbrev S256 : Shape := ⟨1, ![256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S8x1x8x8 : S_.BroadcastsInDim S8x1x8x8 (![] : Fin 0 → Fin S8x1x8x8.rank)
  reducesTo_S8x1x8x8_S_d0_1_2_3 : S8x1x8x8.ReducesTo [0, 1, 2, 3] S_
  bcast_S_S64x256x1x1 : S_.BroadcastsInDim S64x256x1x1 (![] : Fin 0 → Fin S64x256x1x1.rank)
  reducesTo_S64x256x1x1_S_d0_1_2_3 : S64x256x1x1.ReducesTo [0, 1, 2, 3] S_
  bcast_S_S64 : S_.BroadcastsInDim S64 (![] : Fin 0 → Fin S64.rank)
  reducesTo_S64_S_d0 : S64.ReducesTo [0] S_
  bcast_S_S64x64x3x3 : S_.BroadcastsInDim S64x64x3x3 (![] : Fin 0 → Fin S64x64x3x3.rank)
  reducesTo_S64x64x3x3_S_d0_1_2_3 : S64x64x3x3.ReducesTo [0, 1, 2, 3] S_
  bcast_S_S256x64x1x1 : S_.BroadcastsInDim S256x64x1x1 (![] : Fin 0 → Fin S256x64x1x1.rank)
  reducesTo_S256x64x1x1_S_d0_1_2_3 : S256x64x1x1.ReducesTo [0, 1, 2, 3] S_
  bcast_S_S256 : S_.BroadcastsInDim S256 (![] : Fin 0 → Fin S256.rank)
  reducesTo_S256_S_d0 : S256.ReducesTo [0] S_

variable [Facts]

def fn_part4 {F : FTy → Type} [FloatOps F] (main_arg11 : FVec F S64 .f32) (main_arg16 : FVec F S256 .f32) (main_v65 : IVec S_ 1) (main_v66 : FVec F S64 .f32) : IVec S_ 1 :=
  let main_v67 : FVec F S64 .f32 := addf main_arg11 main_v66
  let main_cst_27 : FVec F S_ .f32 := constant S_ .f32 0x00000000#32
  let main_v68 : FVec F S64 .f32 := broadcastInDim S64 ![] bcast_S_S64 main_cst_27
  let main_v69 : IVec S64 1 := cmpf .une main_v67 main_v68
  let main_c_28 : IVec S_ 1 := constantI S_ 1 1#1
  let main_v70 : IVec S_ 1 := (fun x v => Host.reduce IntOp.andi x v reducesTo_S64_S_d0 h_S_) main_v69 main_c_28
  let main_v71 : IVec S_ 1 := andi main_v65 main_v70
  let main_cst_29 : FVec F S_ .f32 := constant S_ .f32 0x3727C5AC#32
  let main_v72 : FVec F S256 .f32 := broadcastInDim S256 ![] bcast_S_S256 main_cst_29
  let main_v73 : FVec F S256 .f32 := addf main_arg16 main_v72
  let main_cst_30 : FVec F S_ .f32 := constant S_ .f32 0x00000000#32
  let main_v74 : FVec F S256 .f32 := broadcastInDim S256 ![] bcast_S_S256 main_cst_30
  let main_v75 : IVec S256 1 := cmpf .une main_v73 main_v74
  let main_c_31 : IVec S_ 1 := constantI S_ 1 1#1
  let main_v76 : IVec S_ 1 := (fun x v => Host.reduce IntOp.andi x v reducesTo_S256_S_d0 h_S_) main_v75 main_c_31
  let main_v77 : IVec S_ 1 := andi main_v71 main_v76
  main_v77

def fn_part3 {F : FTy → Type} [FloatOps F] (main_arg6 : FVec F S64 .f32) (main_arg11 : FVec F S64 .f32) (main_arg13 : FVec F S256 .f32) (main_arg16 : FVec F S256 .f32) (main_v49 : IVec S_ 1) (main_v50 : FVec F S256x64x1x1 .f32) : IVec S_ 1 :=
  let main_cst_19 : FVec F S_ .f32 := constant S_ .f32 0x7F800000#32
  let main_v51 : FVec F S256x64x1x1 .f32 := broadcastInDim S256x64x1x1 ![] bcast_S_S256x64x1x1 main_cst_19
  let main_v52 : IVec S256x64x1x1 1 := cmpf .olt main_v50 main_v51
  let main_c_20 : IVec S_ 1 := constantI S_ 1 1#1
  let main_v53 : IVec S_ 1 := (fun x v => Host.reduce IntOp.andi x v reducesTo_S256x64x1x1_S_d0_1_2_3 h_S_) main_v52 main_c_20
  let main_v54 : IVec S_ 1 := andi main_v49 main_v53
  let main_v55 : FVec F S256 .f32 := Host.absf main_arg13
  let main_cst_21 : FVec F S_ .f32 := constant S_ .f32 0x7F800000#32
  let main_v56 : FVec F S256 .f32 := broadcastInDim S256 ![] bcast_S_S256 main_cst_21
  let main_v57 : IVec S256 1 := cmpf .olt main_v55 main_v56
  let main_c_22 : IVec S_ 1 := constantI S_ 1 1#1
  let main_v58 : IVec S_ 1 := (fun x v => Host.reduce IntOp.andi x v reducesTo_S256_S_d0 h_S_) main_v57 main_c_22
  let main_v59 : IVec S_ 1 := andi main_v54 main_v58
  let main_cst_23 : FVec F S_ .f32 := constant S_ .f32 0x3727C5AC#32
  let main_v60 : FVec F S64 .f32 := broadcastInDim S64 ![] bcast_S_S64 main_cst_23
  let main_v61 : FVec F S64 .f32 := addf main_arg6 main_v60
  let main_cst_24 : FVec F S_ .f32 := constant S_ .f32 0x00000000#32
  let main_v62 : FVec F S64 .f32 := broadcastInDim S64 ![] bcast_S_S64 main_cst_24
  let main_v63 : IVec S64 1 := cmpf .une main_v61 main_v62
  let main_c_25 : IVec S_ 1 := constantI S_ 1 1#1
  let main_v64 : IVec S_ 1 := (fun x v => Host.reduce IntOp.andi x v reducesTo_S64_S_d0 h_S_) main_v63 main_c_25
  let main_v65 : IVec S_ 1 := andi main_v59 main_v64
  let main_cst_26 : FVec F S_ .f32 := constant S_ .f32 0x3727C5AC#32
  let main_v66 : FVec F S64 .f32 := broadcastInDim S64 ![] bcast_S_S64 main_cst_26
  fn_part4 (F := F) main_arg11 main_arg16 main_v65 main_v66

def fn_part2 {F : FTy → Type} [FloatOps F] (main_arg6 : FVec F S64 .f32) (main_arg8 : FVec F S64 .f32) (main_arg9 : FVec F S64 .f32) (main_arg10 : FVec F S64 .f32) (main_arg11 : FVec F S64 .f32) (main_arg12 : FVec F S256x64x1x1 .f32) (main_arg13 : FVec F S256 .f32) (main_arg16 : FVec F S256 .f32) (main_v29 : IVec S_ 1) (main_v32 : IVec S64x64x3x3 1) (main_c_12 : IVec S_ 1) : IVec S_ 1 :=
  let main_v33 : IVec S_ 1 := (fun x v => Host.reduce IntOp.andi x v reducesTo_S64x64x3x3_S_d0_1_2_3 h_S_) main_v32 main_c_12
  let main_v34 : IVec S_ 1 := andi main_v29 main_v33
  let main_v35 : FVec F S64 .f32 := Host.absf main_arg8
  let main_cst_13 : FVec F S_ .f32 := constant S_ .f32 0x7F800000#32
  let main_v36 : FVec F S64 .f32 := broadcastInDim S64 ![] bcast_S_S64 main_cst_13
  let main_v37 : IVec S64 1 := cmpf .olt main_v35 main_v36
  let main_c_14 : IVec S_ 1 := constantI S_ 1 1#1
  let main_v38 : IVec S_ 1 := (fun x v => Host.reduce IntOp.andi x v reducesTo_S64_S_d0 h_S_) main_v37 main_c_14
  let main_v39 : IVec S_ 1 := andi main_v34 main_v38
  let main_v40 : FVec F S64 .f32 := Host.absf main_arg9
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64 .f32 := Host.absf main_arg10
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  let main_v50 : FVec F S256x64x1x1 .f32 := Host.absf main_arg12
  fn_part3 (F := F) main_arg6 main_arg11 main_arg13 main_arg16 main_v49 main_v50

def fn_part1 {F : FTy → Type} [FloatOps F] (main_arg4 : FVec F S64 .f32) (main_arg5 : FVec F S64 .f32) (main_arg6 : FVec F S64 .f32) (main_arg7 : FVec F S64x64x3x3 .f32) (main_arg8 : FVec F S64 .f32) (main_arg9 : FVec F S64 .f32) (main_arg10 : FVec F S64 .f32) (main_arg11 : FVec F S64 .f32) (main_arg12 : FVec F S256x64x1x1 .f32) (main_arg13 : FVec F S256 .f32) (main_arg16 : FVec F S256 .f32) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64 .f32 := Host.absf main_arg4
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S64 .f32 := Host.absf main_arg5
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  let main_v30 : FVec F S64x64x3x3 .f32 := Host.absf main_arg7
  let main_cst_11 : FVec F S_ .f32 := constant S_ .f32 0x7F800000#32
  let main_v31 : FVec F S64x64x3x3 .f32 := broadcastInDim S64x64x3x3 ![] bcast_S_S64x64x3x3 main_cst_11
  let main_v32 : IVec S64x64x3x3 1 := cmpf .olt main_v30 main_v31
  let main_c_12 : IVec S_ 1 := constantI S_ 1 1#1
  fn_part2 (F := F) main_arg6 main_arg8 main_arg9 main_arg10 main_arg11 main_arg12 main_arg13 main_arg16 main_v29 main_v32 main_c_12

def fn {F : FTy → Type} [FloatOps F] (main_arg0 : FVec F S8x256x128x128 .f32) (main_arg1 : FVec F S8x1x8x8 .f32) (main_arg2 : FVec F S64x256x1x1 .f32) (main_arg3 : FVec F S64 .f32) (main_arg4 : FVec F S64 .f32) (main_arg5 : FVec F S64 .f32) (main_arg6 : FVec F S64 .f32) (main_arg7 : FVec F S64x64x3x3 .f32) (main_arg8 : FVec F S64 .f32) (main_arg9 : FVec F S64 .f32) (main_arg10 : FVec F S64 .f32) (main_arg11 : FVec F S64 .f32) (main_arg12 : FVec F S256x64x1x1 .f32) (main_arg13 : FVec F S256 .f32) (main_arg14 : FVec F S256 .f32) (main_arg15 : FVec F S256 .f32) (main_arg16 : FVec F S256 .f32) (main_arg17 : IVec S_ 1) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_c_0 : IVec S_ 1 := constantI S_ 1 1#1
  let main_v4 : IVec S_ 1 := andi main_c_0 main_v3
  let main_v5 : FVec F S8x1x8x8 .f32 := Host.absf main_arg1
  let main_cst_1 : FVec F S_ .f32 := constant S_ .f32 0x7F800000#32
  let main_v6 : FVec F S8x1x8x8 .f32 := broadcastInDim S8x1x8x8 ![] bcast_S_S8x1x8x8 main_cst_1
  let main_v7 : IVec S8x1x8x8 1 := cmpf .olt main_v5 main_v6
  let main_c_2 : IVec S_ 1 := constantI S_ 1 1#1
  let main_v8 : IVec S_ 1 := (fun x v => Host.reduce IntOp.andi x v reducesTo_S8x1x8x8_S_d0_1_2_3 h_S_) main_v7 main_c_2
  let main_v9 : IVec S_ 1 := andi main_v4 main_v8
  let main_v10 : FVec F S64x256x1x1 .f32 := Host.absf main_arg2
  let main_cst_3 : FVec F S_ .f32 := constant S_ .f32 0x7F800000#32
  let main_v11 : FVec F S64x256x1x1 .f32 := broadcastInDim S64x256x1x1 ![] bcast_S_S64x256x1x1 main_cst_3
  let main_v12 : IVec S64x256x1x1 1 := cmpf .olt main_v10 main_v11
  let main_c_4 : IVec S_ 1 := constantI S_ 1 1#1
  let main_v13 : IVec S_ 1 := (fun x v => Host.reduce IntOp.andi x v reducesTo_S64x256x1x1_S_d0_1_2_3 h_S_) main_v12 main_c_4
  let main_v14 : IVec S_ 1 := andi main_v9 main_v13
  let main_v15 : FVec F S64 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg16 main_v14 main_v15 main_cst_5
-- ==== Kernel.lean ====
abbrev S8x256x128x128 : Shape := ⟨4, ![8, 256, 128, 128]⟩
abbrev S8x1x8x8 : Shape := ⟨4, ![8, 1, 8, 8]⟩
abbrev S64x256x1x1 : Shape := ⟨4, ![64, 256, 1, 1]⟩
abbrev S64 : Shape := ⟨1, ![64]⟩
abbrev S64x64x3x3 : Shape := ⟨4, ![64, 64, 3, 3]⟩
abbrev S256x64x1x1 : Shape := ⟨4, ![256, 64, 1, 1]⟩
abbrev S256 : Shape := ⟨1, ![256]⟩
abbrev S_ : Shape := ⟨0, ![]⟩
abbrev S64x256 : Shape := ⟨2, ![64, 256]⟩
abbrev S64x1 : Shape := ⟨2, ![64, 1]⟩
abbrev S64x1x1x1 : Shape := ⟨4, ![64, 1, 1, 1]⟩
abbrev S64x64x3x1 : Shape := ⟨4, ![64, 64, 3, 1]⟩
abbrev S64x64x3 : Shape := ⟨3, ![64, 64, 3]⟩
abbrev S64x192x3 : Shape := ⟨3, ![64, 192, 3]⟩
abbrev S3x64x192 : Shape := ⟨3, ![3, 64, 192]⟩
abbrev S256x64 : Shape := ⟨2, ![256, 64]⟩
abbrev S256x1 : Shape := ⟨2, ![256, 1]⟩
abbrev S8x8x8 : Shape := ⟨3, ![8, 8, 8]⟩
abbrev S8x8x1x8x1 : Shape := ⟨5, ![8, 8, 1, 8, 1]⟩
abbrev S8x8x16x8x16 : Shape := ⟨5, ![8, 8, 16, 8, 16]⟩
abbrev S8x128x128 : Shape := ⟨3, ![8, 128, 128]⟩
abbrev S8x1x16384 : Shape := ⟨3, ![8, 1, 16384]⟩
abbrev S8x8x16384 : Shape := ⟨3, ![8, 8, 16384]⟩
abbrev S1x256x64x128 : Shape := ⟨4, ![1, 256, 64, 128]⟩
abbrev S1x256x8x128 : Shape := ⟨4, ![1, 256, 8, 128]⟩
abbrev S1x64x128 : Shape := ⟨3, ![1, 64, 128]⟩
abbrev S1x8x128 : Shape := ⟨3, ![1, 8, 128]⟩
abbrev S1x8x8192 : Shape := ⟨3, ![1, 8, 8192]⟩
abbrev S256x64x128 : Shape := ⟨3, ![256, 64, 128]⟩
abbrev S64x128 : Shape := ⟨2, ![64, 128]⟩
abbrev S8x8192 : Shape := ⟨2, ![8, 8192]⟩
abbrev S256x8192 : Shape := ⟨2, ![256, 8192]⟩
abbrev S64x8192 : Shape := ⟨2, ![64, 8192]⟩
abbrev S8x8x8192 : Shape := ⟨3, ![8, 8, 8192]⟩
abbrev S1x256x1x128 : Shape := ⟨4, ![1, 256, 1, 128]⟩
abbrev S256x128 : Shape := ⟨2, ![256, 128]⟩
abbrev S1x1x128 : Shape := ⟨3, ![1, 1, 128]⟩
abbrev S128 : Shape := ⟨1, ![128]⟩
abbrev S1x128 : Shape := ⟨2, ![1, 128]⟩
abbrev S64x8448 : Shape := ⟨2, ![64, 8448]⟩
abbrev S8x8448 : Shape := ⟨2, ![8, 8448]⟩
abbrev S64x8447 : Shape := ⟨2, ![64, 8447]⟩
abbrev S8x8x8448 : Shape := ⟨3, ![8, 8, 8448]⟩
abbrev S1x8x8448 : Shape := ⟨3, ![1, 8, 8448]⟩
abbrev S192x8448 : Shape := ⟨2, ![192, 8448]⟩
abbrev S1x64x192 : Shape := ⟨3, ![1, 64, 192]⟩
abbrev S64x192 : Shape := ⟨2, ![64, 192]⟩
abbrev S192x8192 : Shape := ⟨2, ![192, 8192]⟩

abbrev nBuf : Space → Nat
  | .hbm => 71
  | .vmem => 22
  | .smem => 0
  | _ => 0

abbrev bufTy : (tb : Table) → Fin (tcTables nBuf tb) → BufTy
  | .hbm, ⟨0, _⟩ => ⟨S8x256x128x128, .f32⟩
  | .hbm, ⟨1, _⟩ => ⟨S8x1x8x8, .f32⟩
  | .hbm, ⟨2, _⟩ => ⟨S64x256x1x1, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64x3x3, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S256x64x1x1, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S_, .i1⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S64x256, .f32⟩
  | .hbm, ⟨34, _⟩ => ⟨S64x1, .f32⟩
  | .hbm, ⟨35, _⟩ => ⟨S64x256, .f32⟩
  | .hbm, ⟨36, _⟩ => ⟨S64x256, .f32⟩
  | .hbm, ⟨37, _⟩ => ⟨S64x256, .bf16⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x1x1x1, .f32⟩
  | .hbm, ⟨42, _⟩ => ⟨S64x64x3x3, .f32⟩
  | .hbm, ⟨43, _⟩ => ⟨S64x64x3x3, .f32⟩
  | .hbm, ⟨44, _⟩ => ⟨S64x64x3x1, .f32⟩
  | .hbm, ⟨45, _⟩ => ⟨S64x64x3, .f32⟩
  | .hbm, ⟨46, _⟩ => ⟨S64x64x3x1, .f32⟩
  | .hbm, ⟨47, _⟩ => ⟨S64x64x3, .f32⟩
  | .hbm, ⟨48, _⟩ => ⟨S64x64x3x1, .f32⟩
  | .hbm, ⟨49, _⟩ => ⟨S64x64x3, .f32⟩
  | .hbm, ⟨50, _⟩ => ⟨S64x192x3, .f32⟩
  | .hbm, ⟨51, _⟩ => ⟨S3x64x192, .f32⟩
  | .hbm, ⟨52, _⟩ => ⟨S3x64x192, .bf16⟩
  | .hbm, ⟨53, _⟩ => ⟨S64, .f32⟩
  | .hbm, ⟨54, _⟩ => ⟨S64, .f32⟩
  | .hbm, ⟨55, _⟩ => ⟨S64x1, .f32⟩
  | .hbm, ⟨56, _⟩ => ⟨S256x64, .f32⟩
  | .hbm, ⟨57, _⟩ => ⟨S256x1, .f32⟩
  | .hbm, ⟨58, _⟩ => ⟨S256x64, .f32⟩
  | .hbm, ⟨59, _⟩ => ⟨S256x64, .f32⟩
  | .hbm, ⟨60, _⟩ => ⟨S256x64, .bf16⟩
  | .hbm, ⟨61, _⟩ => ⟨S256, .f32⟩
  | .hbm, ⟨62, _⟩ => ⟨S256, .f32⟩
  | .hbm, ⟨63, _⟩ => ⟨S256x1, .f32⟩
  | .hbm, ⟨64, _⟩ => ⟨S8x8x8, .f32⟩
  | .hbm, ⟨65, _⟩ => ⟨S8x8x1x8x1, .f32⟩
  | .hbm, ⟨66, _⟩ => ⟨S8x8x16x8x16, .f32⟩
  | .hbm, ⟨67, _⟩ => ⟨S8x128x128, .f32⟩
  | .hbm, ⟨68, _⟩ => ⟨S8x1x16384, .f32⟩
  | .hbm, ⟨69, _⟩ => ⟨S8x8x16384, .f32⟩
  | .hbm, ⟨70, _⟩ => ⟨S8x256x128x128, .f32⟩
  | .local _ .vmem, ⟨0, _⟩ => ⟨S1x256x64x128, .f32⟩
  | .local _ .vmem, ⟨1, _⟩ => ⟨S1x256x64x128, .f32⟩
  | .local _ .vmem, ⟨2, _⟩ => ⟨S1x256x8x128, .f32⟩
  | .local _ .vmem, ⟨3, _⟩ => ⟨S1x256x8x128, .f32⟩
  | .local _ .vmem, ⟨4, _⟩ => ⟨S1x256x8x128, .f32⟩
  | .local _ .vmem, ⟨5, _⟩ => ⟨S1x256x8x128, .f32⟩
  | .local _ .vmem, ⟨6, _⟩ => ⟨S1x64x128, .f32⟩
  | .local _ .vmem, ⟨7, _⟩ => ⟨S1x64x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x8192, .f32⟩
  | .local _ .vmem, ⟨13, _⟩ => ⟨S1x8x8192, .f32⟩
  | .local _ .vmem, ⟨14, _⟩ => ⟨S64x256, .bf16⟩
  | .local _ .vmem, ⟨15, _⟩ => ⟨S64x1, .f32⟩
  | .local _ .vmem, ⟨16, _⟩ => ⟨S3x64x192, .bf16⟩
  | .local _ .vmem, ⟨17, _⟩ => ⟨S64x1, .f32⟩
  | .local _ .vmem, ⟨18, _⟩ => ⟨S256x64, .bf16⟩
  | .local _ .vmem, ⟨19, _⟩ => ⟨S256x1, .f32⟩
  | .local _ .vmem, ⟨20, _⟩ => ⟨S1x256x64x128, .f32⟩
  | .local _ .vmem, ⟨21, _⟩ => ⟨S1x256x64x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c15_i32 : BitVec 32 := 15#32
  let v2 : BitVec 32 := Scalar.minsi v1 c15_i32
  let c0_i32 : BitVec 32 := 0#32
  let c0_i32_1 : BitVec 32 := 0#32
  let c0_i32_2 : BitVec 32 := 0#32
  ![arg0.toNat, c0_i32.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c15_i32 : BitVec 32 := 15#32
  let v2 : BitVec 32 := Scalar.minsi v1 c15_i32
  let c0_i32 : BitVec 32 := 0#32
  let c0_i32_1 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x64x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x256x128x128 : Shape := ⟨4, ![8, 256, 128, 128]⟩
abbrev S8x1x8x8 : Shape := ⟨4, ![8, 1, 8, 8]⟩
abbrev S64x256x1x1 : Shape := ⟨4, ![64, 256, 1, 1]⟩
abbrev S64 : Shape := ⟨1, ![64]⟩
abbrev S64x64x3x3 : Shape := ⟨4, ![64, 64, 3, 3]⟩
abbrev S256x64x1x1 : Shape := ⟨4, ![256, 64, 1, 1]⟩
abbrev S256 : Shape := ⟨1, ![256]⟩
abbrev S_ : Shape := ⟨0, ![]⟩
abbrev S8x1x8x16x8 : Shape := ⟨5, ![8, 1, 8, 16, 8]⟩
abbrev S8x1x128x8 : Shape := ⟨4, ![8, 1, 128, 8]⟩
abbrev S8x1x128x8x16 : Shape := ⟨5, ![8, 1, 128, 8, 16]⟩
abbrev S8x1x128x128 : Shape := ⟨4, ![8, 1, 128, 128]⟩
abbrev S64x256 : Shape := ⟨2, ![64, 256]⟩
abbrev S8x128x128x64 : Shape := ⟨4, ![8, 128, 128, 64]⟩
abbrev S8x64x128x128 : Shape := ⟨4, ![8, 64, 128, 128]⟩
abbrev S1x64x1x1 : Shape := ⟨4, ![1, 64, 1, 1]⟩
abbrev S8x64x130x130 : Shape := ⟨4, ![8, 64, 130, 130]⟩
abbrev S64x64x1x1 : Shape := ⟨4, ![64, 64, 1, 1]⟩
abbrev S64x64 : Shape := ⟨2, ![64, 64]⟩
abbrev S256x64 : Shape := ⟨2, ![256, 64]⟩
abbrev S8x128x128x256 : Shape := ⟨4, ![8, 128, 128, 256]⟩
abbrev S1x256x1x1 : Shape := ⟨4, ![1, 256, 1, 1]⟩

abbrev nBuf : Space → Nat
  | .hbm => 151
  | .vmem => 0
  | .smem => 0
  | _ => 0

abbrev hbmTy0_0 (i : Nat) : BufTy := match i % 128 with
  | 0 => ⟨S8x256x128x128, .f32⟩
  | 1 => ⟨S8x1x8x8, .f32⟩
  | 2 => ⟨S64x256x1x1, .f32⟩
  | 3 => ⟨S64, .f32⟩
  | 4 => ⟨S64, .f32⟩
  | 5 => ⟨S64, .f32⟩
  | 6 => ⟨S64, .f32⟩
  | 7 => ⟨S64x64x3x3, .f32⟩
  | 8 => ⟨S64, .f32⟩
  | 9 => ⟨S64, .f32⟩
  | 10 => ⟨S64, .f32⟩
  | 11 => ⟨S64, .f32⟩
  | 12 => ⟨S256x64x1x1, .f32⟩
  | 13 => ⟨S256, .f32⟩
  | 14 => ⟨S256, .f32⟩
  | 15 => ⟨S256, .f32⟩
  | 16 => ⟨S256, .f32⟩
  | 17 => ⟨S_, .i1⟩
  | 18 => ⟨S8x1x8x16x8, .f32⟩
  | 19 => ⟨S8x1x128x8, .f32⟩
  | 20 => ⟨S8x1x128x8x16, .f32⟩
  | 21 => ⟨S8x1x128x128, .f32⟩
  | 22 => ⟨S8x256x128x128, .f32⟩
  | 23 => ⟨S8x256x128x128, .f32⟩
  | 24 => ⟨S64x256, .f32⟩
  | 25 => ⟨S8x128x128x64, .f32⟩
  | 26 => ⟨S8x64x128x128, .f32⟩
  | 27 => ⟨S1x64x1x1, .f32⟩
  | 28 => ⟨S8x64x128x128, .f32⟩
  | 29 => ⟨S8x64x128x128, .f32⟩
  | 30 => ⟨S1x64x1x1, .f32⟩
  | 31 => ⟨S_, .f32⟩
  | 32 => ⟨S1x64x1x1, .f32⟩
  | 33 => ⟨S1x64x1x1, .f32⟩
  | 34 => ⟨S1x64x1x1, .f32⟩
  | 35 => ⟨S8x64x128x128, .f32⟩
  | 36 => ⟨S8x64x128x128, .f32⟩
  | 37 => ⟨S1x64x1x1, .f32⟩
  | 38 => ⟨S8x64x128x128, .f32⟩
  | 39 => ⟨S8x64x128x128, .f32⟩
  | 40 => ⟨S1x64x1x1, .f32⟩
  | 41 => ⟨S8x64x128x128, .f32⟩
  | 42 => ⟨S8x64x128x128, .f32⟩
  | 43 => ⟨S_, .f32⟩
  | 44 => ⟨S8x64x128x128, .f32⟩
  | 45 => ⟨S8x64x128x128, .f32⟩
  | 46 => ⟨S8x64x128x128, .f32⟩
  | 47 => ⟨S8x64x128x128, .f32⟩
  | 48 => ⟨S_, .i32⟩
  | 49 => ⟨S_, .f32⟩
  | 50 => ⟨S8x64x130x130, .f32⟩
  | 51 => ⟨S_, .f32⟩
  | 52 => ⟨S8x64x128x128, .f32⟩
  | 53 => ⟨S64x64x1x1, .f32⟩
  | 54 => ⟨S64x64, .f32⟩
  | 55 => ⟨S8x64x128x128, .f32⟩
  | 56 => ⟨S8x128x128x64, .f32⟩
  | 57 => ⟨S8x64x128x128, .f32⟩
  | 58 => ⟨S8x64x128x128, .f32⟩
  | 59 => ⟨S64x64x1x1, .f32⟩
  | 60 => ⟨S64x64, .f32⟩
  | 61 => ⟨S8x64x128x128, .f32⟩
  | 62 => ⟨S8x128x128x64, .f32⟩
  | 63 => ⟨S8x64x128x128, .f32⟩
  | 64 => ⟨S8x64x128x128, .f32⟩
  | 65 => ⟨S64x64x1x1, .f32⟩
  | 66 => ⟨S64x64, .f32⟩
  | 67 => ⟨S8x64x128x128, .f32⟩
  | 68 => ⟨S8x128x128x64, .f32⟩
  | 69 => ⟨S8x64x128x128, .f32⟩
  | 70 => ⟨S8x64x128x128, .f32⟩
  | 71 => ⟨S64x64x1x1, .f32⟩
  | 72 => ⟨S64x64, .f32⟩
  | 73 => ⟨S8x64x128x128, .f32⟩
  | 74 => ⟨S8x128x128x64, .f32⟩
  | 75 => ⟨S8x64x128x128, .f32⟩
  | 76 => ⟨S8x64x128x128, .f32⟩
  | 77 => ⟨S64x64x1x1, .f32⟩
  | 78 => ⟨S64x64, .f32⟩
  | 79 => ⟨S8x64x128x128, .f32⟩
  | 80 => ⟨S8x128x128x64, .f32⟩
  | 81 => ⟨S8x64x128x128, .f32⟩
  | 82 => ⟨S8x64x128x128, .f32⟩
  | 83 => ⟨S64x64x1x1, .f32⟩
  | 84 => ⟨S64x64, .f32⟩
  | 85 => ⟨S8x64x128x128, .f32⟩
  | 86 => ⟨S8x128x128x64, .f32⟩
  | 87 => ⟨S8x64x128x128, .f32⟩
  | 88 => ⟨S8x64x128x128, .f32⟩
  | 89 => ⟨S64x64x1x1, .f32⟩
  | 90 => ⟨S64x64, .f32⟩
  | 91 => ⟨S8x64x128x128, .f32⟩
  | 92 => ⟨S8x128x128x64, .f32⟩
  | 93 => ⟨S8x64x128x128, .f32⟩
  | 94 => ⟨S8x64x128x128, .f32⟩
  | 95 => ⟨S64x64x1x1, .f32⟩
  | 96 => ⟨S64x64, .f32⟩
  | 97 => ⟨S8x64x128x128, .f32⟩
  | 98 => ⟨S8x128x128x64, .f32⟩
  | 99 => ⟨S8x64x128x128, .f32⟩
  | 100 => ⟨S8x64x128x128, .f32⟩
  | 101 => ⟨S64x64x1x1, .f32⟩
  | 102 => ⟨S64x64, .f32⟩
  | 103 => ⟨S8x64x128x128, .f32⟩
  | 104 => ⟨S8x128x128x64, .f32⟩
  | 105 => ⟨S8x64x128x128, .f32⟩
  | 106 => ⟨S8x64x128x128, .f32⟩
  | 107 => ⟨S1x64x1x1, .f32⟩
  | 108 => ⟨S8x64x128x128, .f32⟩
  | 109 => ⟨S8x64x128x128, .f32⟩
  | 110 => ⟨S1x64x1x1, .f32⟩
  | 111 => ⟨S_, .f32⟩
  | 112 => ⟨S1x64x1x1, .f32⟩
  | 113 => ⟨S1x64x1x1, .f32⟩
  | 114 => ⟨S1x64x1x1, .f32⟩
  | 115 => ⟨S8x64x128x128, .f32⟩
  | 116 => ⟨S8x64x128x128, .f32⟩
  | 117 => ⟨S1x64x1x1, .f32⟩
  | 118 => ⟨S8x64x128x128, .f32⟩
  | 119 => ⟨S8x64x128x128, .f32⟩
  | 120 => ⟨S1x64x1x1, .f32⟩
  | 121 => ⟨S8x64x128x128, .f32⟩
  | 122 => ⟨S8x64x128x128, .f32⟩
  | 123 => ⟨S_, .f32⟩
  | 124 => ⟨S8x64x128x128, .f32⟩
  | 125 => ⟨S8x64x128x128, .f32⟩
  | 126 => ⟨S8x64x128x128, .f32⟩
  | 127 => ⟨S8x64x128x128, .f32⟩
  | _ => ⟨S8x256x128x128, .f32⟩

abbrev hbmTy0_1 (i : Nat) : BufTy := match i % 128 with
  | 0 => ⟨S256x64, .f32⟩
  | 1 => ⟨S8x128x128x256, .f32⟩
  | 2 => ⟨S8x256x128x128, .f32⟩
  | 3 => ⟨S1x256x1x1, .f32⟩
  | 4 => ⟨S8x256x128x128, .f32⟩
  | 5 => ⟨S8x256x128x128, .f32⟩
  | 6 => ⟨S1x256x1x1, .f32⟩
  | 7 => ⟨S_, .f32⟩
  | 8 => ⟨S1x256x1x1, .f32⟩
  | 9 => ⟨S1x256x1x1, .f32⟩
  | 10 => ⟨S1x256x1x1, .f32⟩
  | 11 => ⟨S8x256x128x128, .f32⟩
  | 12 => ⟨S8x256x128x128, .f32⟩
  | 13 => ⟨S1x256x1x1, .f32⟩
  | 14 => ⟨S8x256x128x128, .f32⟩
  | 15 => ⟨S8x256x128x128, .f32⟩
  | 16 => ⟨S1x256x1x1, .f32⟩
  | 17 => ⟨S8x256x128x128, .f32⟩
  | 18 => ⟨S8x256x128x128, .f32⟩
  | 19 => ⟨S8x256x128x128, .f32⟩
  | 20 => ⟨S_, .f32⟩
  | 21 => ⟨S8x256x128x128, .f32⟩
  | 22 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c : Ref sig .tc := ⟨.hbm, 48, rfl⟩
abbrev main_call1_v0 : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_1 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_call2_cst : Ref sig .tc := ⟨.hbm, 123, rfl⟩
abbrev main_call2_v0 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_2 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_call3_cst : Ref sig .tc := ⟨.hbm, 148, rfl⟩
abbrev main_call3_v0 : Ref sig .tc := ⟨.hbm, 149, rfl⟩
abbrev main_v120 : Ref sig .tc := ⟨.hbm, 150, rfl⟩

abbrev nD : Nat := 1
abbrev τ : Topo := Topo.v7x

variable {F : FTy → Type} [FloatOps F]
-- ==== Proof.Reals.lean ====
module

public import Idealize.ShloMosaic.PureOps.Ideal
public import Idealize.ShloMosaic.Lib.Pointwise

/-!
Extended reals that are real numbers, and the one algebraic law this kernel rests on: an affine normalization after a
weighted sum may be folded into the weights and the offset, provided the weights, the summands and the gain are real and the
variance plus the stabiliser is not zero.
-/

@[expose] public section

noncomputable section

namespace Cert.Bottleneck

open Idealize.ShloMosaic

/-- `x` is a real number, neither of the two infinities. -/
def IsReal (x : EReal) : Prop := ∃ r : ℝ, x = (r : EReal)

namespace IsReal

/-- Zero is real. -/
theorem zero : IsReal 0 := ⟨0, EReal.coe_zero.symm⟩

/-- A sum of two reals is real. -/
theorem add {x y : EReal} (hx : IsReal x) (hy : IsReal y) : IsReal (x + y) := by
  obtain ⟨a, rfl⟩ := hx
  obtain ⟨b, rfl⟩ := hy
  exact ⟨a + b, (EReal.coe_add a b).symm⟩

/-- A difference of two reals is real. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- A product of two reals is real. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is real. -/
theorem max {x y : EReal} (hx : IsReal x) (hy : IsReal y) : IsReal (Max.max x y) := by
  rcases max_choice x y with h | h <;> rw [h] <;> assumption

/-- A finite sum of reals is real. -/
theorem sum {ι : Type} (s : Finset ι) {f : ι → EReal} (h : ∀ i, IsReal (f i)) : IsReal (∑ i ∈ s, f i) := by
  classical
  induction s using Finset.induction_on with
  | empty => simpa using zero
  | insert a s ha ih => rw [Finset.sum_insert ha]; exact add (h a) ih

end IsReal

/-- The constant both programs add to a variance. -/
def eps : EReal := Ideal.ofBits .f32 0x3727C5AC#32

/-- The constant added to a variance is a real number. -/
theorem eps_real : IsReal eps := by
  unfold eps Ideal.ofBits Ideal.ieee
  dsimp only
  rw [if_neg (by decide), if_neg (by decide)]
  exact ⟨_, rfl⟩

/-- Normalization of `v` by mean `rm` and variance `rv`, then gain `g` and offset `b`. -/
def norm (v g b rm rv : EReal) : EReal := Ideal.div (v - rm) (Ideal.sqrt (rv + eps)) * g + b

/-- The gain divided by the standard deviation: what a folded weight is multiplied by. -/
def scale (g rv : EReal) : EReal := Ideal.div g (Ideal.sqrt (rv + eps))

/-- Division by the standard deviation is multiplication by a real number, unless the variance plus `eps` vanishes. (An infinite
deviation divides every number to zero; the square root of a negative number is such a one.) -/
theorem deviation {rv : EReal} (hv : rv + eps ≠ 0) :
    ∃ q : ℝ, ∀ y, Ideal.div y (Ideal.sqrt (rv + eps)) = y * (q : EReal) := by
  have low : ∀ y, Ideal.div y ⊥ = y * ((0 : ℝ) : EReal) := fun y => by
    rw [Ideal.div, if_neg EReal.bot_ne_zero, EReal.inv_bot, EReal.coe_zero]
  have high : ∀ y, Ideal.div y ⊤ = y * ((0 : ℝ) : EReal) := fun y => by
    rw [Ideal.div, if_neg EReal.top_ne_zero, EReal.inv_top, EReal.coe_zero]
  generalize rv + eps = z at hv
  induction z with
  | bot => exact ⟨0, low⟩
  | top => exact ⟨0, high⟩
  | coe r =>
    have e : Ideal.sqrt (r : EReal) = if r < 0 then ⊥ else (Real.sqrt r : EReal) := rfl
    rw [e]
    rcases lt_trichotomy r 0 with h | h | h
    · rw [if_pos h]
      exact ⟨0, low⟩
    · exact absurd (by rw [h, EReal.coe_zero]) hv
    · rw [if_neg (not_lt.2 h.le)]
      exact ⟨_, Ideal.div_coe (Real.sqrt_pos.2 h).ne'⟩

/-- A folded gain is real. -/
theorem scale_real {g rv : EReal} (hg : IsReal g) (hv : rv + eps ≠ 0) : IsReal (scale g rv) := by
  obtain ⟨q, e⟩ := deviation hv
  rw [scale, e]
  exact hg.mul ⟨_, rfl⟩

/-- The normalization of a real is real. -/
theorem norm_real {v g b rm rv : EReal} (h : IsReal v) (hg : IsReal g) (hb : IsReal b) (hm : IsReal rm) (hv : rv + eps ≠ 0) :
    IsReal (norm v g b rm rv) := by
  obtain ⟨q, e⟩ := deviation hv
  rw [norm, e]
  exact (((h.sub hm).mul ⟨_, rfl⟩).mul hg).add hb

/-- A real factor distributes over the difference of a real and any extended real. -/
theorem sub_mul_real (t s : ℝ) (z : EReal) : ((t : EReal) - z) * (s : EReal) = (t : EReal) * s - z * s := by
  induction z with
  | coe z =>
    rw [← EReal.coe_sub, ← EReal.coe_mul, ← EReal.coe_mul, ← EReal.coe_mul, ← EReal.coe_sub, sub_mul]
  | top =>
    rw [EReal.sub_top]
    rcases lt_trichotomy s 0 with h | h | h
    · rw [EReal.bot_mul_coe_of_neg h, EReal.top_mul_coe_of_neg h, ← EReal.coe_mul, EReal.coe_sub_bot]
    · simp [h]
    · rw [EReal.bot_mul_coe_of_pos h, EReal.top_mul_coe_of_pos h, EReal.sub_top]
  | bot =>
    rw [EReal.coe_sub_bot]
    rcases lt_trichotomy s 0 with h | h | h
    · rw [EReal.bot_mul_coe_of_neg h, EReal.top_mul_coe_of_neg h, EReal.sub_top]
    · simp [h]
    · rw [EReal.bot_mul_coe_of_pos h, EReal.top_mul_coe_of_pos h, ← EReal.coe_mul, EReal.coe_sub_bot]

/-- FOLDING: a sum of products with weights that carry the folded gain, plus the folded offset, is the normalization of the
plain sum of products. The factors and the gain are real and the variance plus `eps` is not zero; mean and offset are free. -/
theorem fold {ι : Type} [Fintype ι] (a w : ι → EReal) (ha : ∀ i, IsReal (a i)) (hw : ∀ i, IsReal (w i))
    {g rv : EReal} (b rm : EReal) (hg : IsReal g) (hv : rv + eps ≠ 0) :
    ∑ i, w i * scale g rv * a i + (b - rm * scale g rv) = norm (∑ i, a i * w i) g b rm rv := by
  obtain ⟨q, e⟩ := deviation hv
  choose a' ha' using ha
  choose w' hw' using hw
  obtain ⟨g', rfl⟩ := hg
  have hs : ∀ f : ι → ℝ, ∑ i, ((f i : ℝ) : EReal) = ((∑ i, f i : ℝ) : EReal) := fun f =>
    (map_sum (⟨⟨Real.toEReal, EReal.coe_zero⟩, EReal.coe_add⟩ : ℝ →+ EReal) f Finset.univ).symm
  have hl : ∑ i, w' i * (g' * q) * a' i = (∑ i, a' i * w' i) * (q * g') := by
    rw [Finset.sum_mul]
    exact Finset.sum_congr rfl fun i _ => by ring
  rw [norm, scale, e, e]
  simp only [ha', hw', ← EReal.coe_mul, hs]
  rw [mul_assoc _ (q : EReal) (g' : EReal), ← EReal.coe_mul, sub_mul_real, hl, mul_comm g' q, EReal.coe_mul (∑ i, a' i * w' i),
    sub_eq_add_neg, sub_eq_add_neg, add_comm b, add_assoc]

end Cert.Bottleneck
-- ==== Proof.Spec.lean ====
module

public import proofs.«01_k».proof.Proof.Reals
public import Idealize.ShloMosaic.Lib.Pointwise

/-!
The bottleneck block as scalar formulas, one number at a time, in two spellings: `t1`, `t2`, `out` normalize after each
convolution; `k1`, `k2`, `kout` use weights and offsets with the normalization folded in. `kout_eq`: for arguments
that are `Tame` the two agree.
-/

@[expose] public section

noncomputable section

namespace Cert.Bottleneck

open Idealize.ShloMosaic

/-- The sixteen arrays the block computes from. -/
structure Net where
  /-- the input image batch -/
  x : FVec Ideal ⟨4, ![8, 256, 128, 128]⟩ .f32
  /-- the patch mask -/
  mask : FVec Ideal ⟨4, ![8, 1, 8, 8]⟩ .f32
  w1 : FVec Ideal ⟨4, ![64, 256, 1, 1]⟩ .f32
  g1 : FVec Ideal ⟨1, ![64]⟩ .f32
  b1 : FVec Ideal ⟨1, ![64]⟩ .f32
  m1 : FVec Ideal ⟨1, ![64]⟩ .f32
  v1 : FVec Ideal ⟨1, ![64]⟩ .f32
  w2 : FVec Ideal ⟨4, ![64, 64, 3, 3]⟩ .f32
  g2 : FVec Ideal ⟨1, ![64]⟩ .f32
  b2 : FVec Ideal ⟨1, ![64]⟩ .f32
  m2 : FVec Ideal ⟨1, ![64]⟩ .f32
  v2 : FVec Ideal ⟨1, ![64]⟩ .f32
  w3 : FVec Ideal ⟨4, ![256, 64, 1, 1]⟩ .f32
  g3 : FVec Ideal ⟨1, ![256]⟩ .f32
  b3 : FVec Ideal ⟨1, ![256]⟩ .f32
  m3 : FVec Ideal ⟨1, ![256]⟩ .f32
  v3 : FVec Ideal ⟨1, ![256]⟩ .f32

/-- A 128×128 image with a border of zeros of width one, at padded row `i` and padded column `j`. -/
def bordered (f : Fin 128 → Fin 128 → EReal) (i j : ℕ) : EReal :=
  if h : (1 ≤ i ∧ i - 1 < 128) ∧ 1 ≤ j ∧ j - 1 < 128 then f ⟨i - 1, h.1.2⟩ ⟨j - 1, h.2.2⟩ else 0

/-- A bordered image of reals is real everywhere. -/
theorem bordered_real {f : Fin 128 → Fin 128 → EReal} (hf : ∀ h w, IsReal (f h w)) (i j : ℕ) : IsReal (bordered f i j) := by
  unfold bordered
  split
  exacts [hf _ _, IsReal.zero]

namespace Net

variable (A : Net)

/-- The mask of a pixel: that of the 16×16 patch it lies in. -/
def keep (b : Fin 8) (h w : Fin 128) : EReal :=
  A.mask (ix4 b 0 ⟨h.val / 16, by omega⟩ ⟨w.val / 16, by omega⟩)

/-- The first layer: a 1×1 convolution of the masked input, normalized, rectified and masked. -/
def t1 (b : Fin 8) (k : Fin 64) (h w : Fin 128) : EReal :=
  max (norm (∑ i : Fin 256, A.x (ix4 b i h w) * A.keep b h w * A.w1 (ix4 k i 0 0))
    (A.g1 (ix1 k)) (A.b1 (ix1 k)) (A.m1 (ix1 k)) (A.v1 (ix1 k))) 0 * A.keep b h w

/-- The second layer: a 3×3 convolution with a border of zeros, normalized, rectified and masked. -/
def t2 (b : Fin 8) (k : Fin 64) (h w : Fin 128) : EReal :=
  max (norm (∑ dy : Fin 3, ∑ dx : Fin 3, ∑ i : Fin 64, bordered (A.t1 b i) (dy.val + h.val) (dx.val + w.val) * A.w2 (ix4 k i dy dx))
    (A.g2 (ix1 k)) (A.b2 (ix1 k)) (A.m2 (ix1 k)) (A.v2 (ix1 k))) 0 * A.keep b h w

/-- The third layer: a 1×1 convolution, normalized; then the input added and the sum rectified. -/
def out (b : Fin 8) (k : Fin 256) (h w : Fin 128) : EReal :=
  max (norm (∑ i : Fin 64, A.t2 b i h w * A.w3 (ix4 k i 0 0))
    (A.g3 (ix1 k)) (A.b3 (ix1 k)) (A.m3 (ix1 k)) (A.v3 (ix1 k)) + A.x (ix4 b k h w)) 0

/-- The folded gain of each layer's channel `k`. -/
def s1 (k : Fin 64) : EReal := scale (A.g1 (ix1 k)) (A.v1 (ix1 k))
@[inherit_doc s1] def s2 (k : Fin 64) : EReal := scale (A.g2 (ix1 k)) (A.v2 (ix1 k))
@[inherit_doc s1] def s3 (k : Fin 256) : EReal := scale (A.g3 (ix1 k)) (A.v3 (ix1 k))

/-- The first layer with folded weights. -/
def k1 (b : Fin 8) (k : Fin 64) (h w : Fin 128) : EReal :=
  max (∑ i : Fin 256, A.w1 (ix4 k i 0 0) * A.s1 k * (A.x (ix4 b i h w) * A.keep b h w)
    + (A.b1 (ix1 k) - A.m1 (ix1 k) * A.s1 k)) 0 * A.keep b h w

/-- The second layer with folded weights. -/
def k2 (b : Fin 8) (k : Fin 64) (h w : Fin 128) : EReal :=
  max (∑ dy : Fin 3, ∑ dx : Fin 3, ∑ i : Fin 64, A.w2 (ix4 k i dy dx) * A.s2 k * bordered (A.k1 b i) (dy.val + h.val) (dx.val + w.val)
    + (A.b2 (ix1 k) - A.m2 (ix1 k) * A.s2 k)) 0 * A.keep b h w

/-- The third layer with folded weights; then the input added and the sum rectified. -/
def kout (b : Fin 8) (k : Fin 256) (h w : Fin 128) : EReal :=
  max (∑ i : Fin 64, A.w3 (ix4 k i 0 0) * A.s3 k * A.k2 b i h w
    + (A.b3 (ix1 k) - A.m3 (ix1 k) * A.s3 k) + A.x (ix4 b k h w)) 0

/-- What the arguments must satisfy: every entry is a real number, and no variance vanishes once `eps` is added. The variances, and
the last layer's offset and mean, may be infinite. -/
structure Tame : Prop where
  x : ∀ i, IsReal (A.x i)
  mask : ∀ i, IsReal (A.mask i)
  w1 : ∀ i, IsReal (A.w1 i)
  g1 : ∀ i, IsReal (A.g1 i)
  b1 : ∀ i, IsReal (A.b1 i)
  m1 : ∀ i, IsReal (A.m1 i)
  w2 : ∀ i, IsReal (A.w2 i)
  g2 : ∀ i, IsReal (A.g2 i)
  b2 : ∀ i, IsReal (A.b2 i)
  m2 : ∀ i, IsReal (A.m2 i)
  w3 : ∀ i, IsReal (A.w3 i)
  g3 : ∀ i, IsReal (A.g3 i)
  spread1 : ∀ i, A.v1 i + eps ≠ 0
  spread2 : ∀ i, A.v2 i + eps ≠ 0
  spread3 : ∀ i, A.v3 i + eps ≠ 0

variable {A} (hA : A.Tame)
include hA

/-- A mask value is real. -/
theorem keep_real (b : Fin 8) (h w : Fin 128) : IsReal (A.keep b h w) := hA.mask _

/-- The first layer's values are real. -/
theorem t1_real (b : Fin 8) (k : Fin 64) (h w : Fin 128) : IsReal (A.t1 b k h w) :=
  ((norm_real (IsReal.sum _ fun _ => ((hA.x _).mul (keep_real hA b h w)).mul (hA.w1 _)) (hA.g1 _) (hA.b1 _) (hA.m1 _)
    (hA.spread1 _)).max IsReal.zero).mul (keep_real hA b h w)

/-- The second layer's values are real. -/
theorem t2_real (b : Fin 8) (k : Fin 64) (h w : Fin 128) : IsReal (A.t2 b k h w) :=
  ((norm_real (IsReal.sum _ fun _ => IsReal.sum _ fun _ => IsReal.sum _ fun _ =>
    (bordered_real (t1_real hA b _) _ _).mul (hA.w2 _)) (hA.g2 _) (hA.b2 _) (hA.m2 _)
    (hA.spread2 _)).max IsReal.zero).mul (keep_real hA b h w)

/-- The two spellings of the first layer agree. -/
theorem k1_eq (b : Fin 8) (k : Fin 64) : A.k1 b k = A.t1 b k := by
  funext h w
  unfold k1 t1 s1
  rw [fold (fun i : Fin 256 => A.x (ix4 b i h w) * A.keep b h w) (fun i => A.w1 (ix4 k i 0 0))
    (fun _ => (hA.x _).mul (keep_real hA b h w)) (fun _ => hA.w1 _) _ _ (hA.g1 _) (hA.spread1 _)]

/-- The two spellings of the second layer agree. -/
theorem k2_eq (b : Fin 8) (k : Fin 64) (h w : Fin 128) : A.k2 b k h w = A.t2 b k h w := by
  unfold k2 t2 s2
  simp only [k1_eq hA]
  have e := fold (fun d : Fin 3 × Fin 3 × Fin 64 => bordered (A.t1 b d.2.2) (d.1.val + h.val) (d.2.1.val + w.val))
    (fun d => A.w2 (ix4 k d.2.2 d.1 d.2.1))
    (fun _ => bordered_real (t1_real hA b _) _ _) (fun _ => hA.w2 _) (A.b2 (ix1 k)) (A.m2 (ix1 k)) (hA.g2 (ix1 k)) (hA.spread2 (ix1 k))
  simp only [Fintype.sum_prod_type] at e
  rw [e]

/-- The two spellings of the block agree. -/
theorem kout_eq (b : Fin 8) (k : Fin 256) (h w : Fin 128) : A.kout b k h w = A.out b k h w := by
  unfold kout out s3
  simp only [k2_eq hA]
  rw [fold (fun i : Fin 64 => A.t2 b i h w) (fun i => A.w3 (ix4 k i 0 0))
    (fun _ => t2_real hA b _ h w) (fun _ => hA.w3 _) _ _ (hA.g3 _) (hA.spread3 _)]

end Net

end Cert.Bottleneck
-- ==== Proof.Entry.lean ====
module

public import proofs.«01_k».proof.Proof.Gen.KernelIdeal.Value
public import proofs.«01_k».proof.Proof.Spec
public import Idealize.ShloMosaic.Lib.Pointwise
public import Idealize.ShloMosaic.Lib.Claim
public import Idealize.ShloMosaic.Lib.Pipeline.ValueKit

/-!
What the arrays that the kernel is launched on hold, one number at a time: the folded weights and offsets of the three
layers and the two spellings of the mask, as formulas of the program's arguments.
-/

@[expose] public section

set_option maxRecDepth 16384

noncomputable section

namespace Cert.Entry

open Cert.KernelIdeal Cert.KernelIdeal.Gen Idealize.ShloMosaic Idealize.ShloMosaic.TcCoe Idealize.SL.Sem
open Cert.Bottleneck

variable (m : (ℓ : Loc nD τ sig) → Buf (Elt Ideal) ℓ) (c : Dev nD)

/-- The kernel program's arguments. -/
def net : Net where
  x := m ((c : Thread nD τ).loc main_arg0)
  mask := m ((c : Thread nD τ).loc main_arg1)
  w1 := m ((c : Thread nD τ).loc main_arg2)
  g1 := m ((c : Thread nD τ).loc main_arg3)
  b1 := m ((c : Thread nD τ).loc main_arg4)
  m1 := m ((c : Thread nD τ).loc main_arg5)
  v1 := m ((c : Thread nD τ).loc main_arg6)
  w2 := m ((c : Thread nD τ).loc main_arg7)
  g2 := m ((c : Thread nD τ).loc main_arg8)
  b2 := m ((c : Thread nD τ).loc main_arg9)
  m2 := m ((c : Thread nD τ).loc main_arg10)
  v2 := m ((c : Thread nD τ).loc main_arg11)
  w3 := m ((c : Thread nD τ).loc main_arg12)
  g3 := m ((c : Thread nD τ).loc main_arg13)
  b3 := m ((c : Thread nD τ).loc main_arg14)
  m3 := m ((c : Thread nD τ).loc main_arg15)
  v3 := m ((c : Thread nD τ).loc main_arg16)

/-- The first layer's folded weights. -/
theorem w1_at (k : Fin 64) (i : Fin 256) :
    (V m c main_v16 : FVec Ideal S64x256 .bf16) (ix2 k i) = (net m c).w1 (ix4 k i 0 0) * (net m c).s1 k := by
  entry_read
  pointwise
  rfl

/-- The first layer's folded offsets. -/
theorem b1_at (k : Fin 64) :
    (V m c main_v19 : FVec Ideal S64x1 .f32) (ix2 k 0) = (net m c).b1 (ix1 k) - (net m c).m1 (ix1 k) * (net m c).s1 k := by
  entry_read
  pointwise
  rfl

/-- Three column offsets of 3×3 weights side by side, the row offset outermost. -/
def sideBySide (w : FVec Ideal S64x64x3x3 .f32) : FVec Ideal S3x64x192 .bf16 :=
  truncf .bf16 (transpose S3x64x192 [2, 0, 1] (concatenate S64x192x3 1
    [⟨S64x64x3, shapeCast S64x64x3 (extractStridedSlice S64x64x3x1 ![0, 0, 0, 0] w slices_S64x64x3x3_S64x64x3x1_0_0_0_0) shapeCasts_S64x64x3x1_S64x64x3⟩,
     ⟨S64x64x3, shapeCast S64x64x3 (extractStridedSlice S64x64x3x1 ![0, 0, 0, 1] w slices_S64x64x3x3_S64x64x3x1_0_0_0_1) shapeCasts_S64x64x3x1_S64x64x3⟩,
     ⟨S64x64x3, shapeCast S64x64x3 (extractStridedSlice S64x64x3x1 ![0, 0, 0, 2] w slices_S64x64x3x3_S64x64x3x1_0_0_0_2) shapeCasts_S64x64x3x1_S64x64x3⟩]
    concatenates_S64x64x3_S64x64x3_S64x64x3_S64x192x3_d1) transposes_S64x192x3_S3x64x192_2_0_1) bitsLt_bf16_f32

/-- 3×3 weights times the folded gain of their output channel. -/
def gained (w : FVec Ideal S64x64x3x3 .f32) (g v : FVec Ideal S64 .f32) : FVec Ideal S64x64x3x3 .f32 :=
  mulf w (broadcastInDim S64x64x3x3 ![0, 1, 2, 3] bcast_S64x1x1x1_S64x64x3x3_0_1_2_3 (broadcastInDim S64x1x1x1 ![0] bcast_S64_S64x1x1x1_0
    (Host.divf g (Host.sqrt (addf v (broadcastInDim S64 ![] bcast_S_S64 (constant S_ .f32 0x3727C5AC#32)))))))

/-- The second layer's weight array is the gained weights side by side. -/
theorem w2_eq : (V m c main_v31 : FVec Ideal S3x64x192 .bf16) = sideBySide (gained (net m c).w2 (net m c).g2 (net m c).v2) := rfl

/-- Weights side by side, read at an entry: column `64 * dx + i` holds column offset `dx` of input channel `i`. -/
theorem sideBySide_at (w : FVec Ideal S64x64x3x3 .f32) (dy : Fin 3) (k : Fin 64) (j : Fin 192) :
    sideBySide w (ix3 dy k j) = w (ix4 k ⟨j.val % 64, by omega⟩ dy ⟨j.val / 64, by omega⟩) := by
  pointwise [sideBySide]
  split
  · exact congrArg w (by idx_ext)
  · split
    · exact congrArg w (by idx_ext)
    · exact congrArg w (by idx_ext)

/-- The gained weights at an entry. -/
theorem gained_at (w : FVec Ideal S64x64x3x3 .f32) (g v : FVec Ideal S64 .f32) (k i : Fin 64) (dy dx : Fin 3) :
    gained w g v (ix4 k i dy dx) = w (ix4 k i dy dx) * scale (g (ix1 k)) (v (ix1 k)) := by
  pointwise [gained]
  rfl

/-- The second layer's folded weights. -/
theorem w2_at (dy : Fin 3) (k : Fin 64) (j : Fin 192) :
    (V m c main_v31 : FVec Ideal S3x64x192 .bf16) (ix3 dy k j)
      = (net m c).w2 (ix4 k ⟨j.val % 64, by omega⟩ dy ⟨j.val / 64, by omega⟩) * (net m c).s2 k := by
  rw [w2_eq, sideBySide_at, gained_at]
  rfl

/-- The second layer's folded offsets. -/
theorem b2_at (k : Fin 64) :
    (V m c main_v34 : FVec Ideal S64x1 .f32) (ix2 k 0) = (net m c).b2 (ix1 k) - (net m c).m2 (ix1 k) * (net m c).s2 k := by
  entry_read
  pointwise
  rfl

/-- The third layer's folded weights. -/
theorem w3_at (k : Fin 256) (i : Fin 64) :
    (V m c main_v39 : FVec Ideal S256x64 .bf16) (ix2 k i) = (net m c).w3 (ix4 k i 0 0) * (net m c).s3 k := by
  entry_read
  pointwise
  rfl

/-- The third layer's folded offsets. -/
theorem b3_at (k : Fin 256) :
    (V m c main_v42 : FVec Ideal S256x1 .f32) (ix2 k 0) = (net m c).b3 (ix1 k) - (net m c).m3 (ix1 k) * (net m c).s3 k := by
  entry_read
  pointwise
  rfl

/-- The mask array at a pixel. -/
theorem pixel_mask_at (b : Fin 8) (h w : Fin 128) :
    (V m c main_v46 : FVec Ideal S8x128x128 .f32) (ix3 b h w) = (net m c).keep b h w := by
  entry_read
  pointwise
  rfl

/-- The mask array with the pixels of an image in one row, repeated eight times. -/
theorem row_mask_at (b : Fin 8) (k : Fin 8) (q : Fin 16384) :
    (V m c main_v48 : FVec Ideal S8x8x16384 .f32) (ix3 b k q)
      = (net m c).keep b ⟨q.val / 128, by omega⟩ ⟨q.val % 128, by omega⟩ := by
  entry_read
  pointwise
  exact congrArg (net m c).mask (by idx_ext)

end Cert.Entry
-- ==== Proof.Body.lean ====
module

public import proofs.«01_k».proof.Proof.Gen.KernelIdeal.Skeleton
public import proofs.«01_k».proof.Proof.Spec
public import Idealize.ShloMosaic.Lib.Pointwise

/-!
The values that one step of the kernel computes from its blocks, read one number at a time.
-/

@[expose] public section

set_option maxRecDepth 16384

noncomputable section

namespace Cert.Block

open Cert.KernelIdeal Cert.KernelIdeal.Gen Idealize.ShloMosaic Idealize.ShloMosaic.TcCoe

/-- A choice by an equality of words is a choice by the equality. -/
theorem select_eq (a b : BitVec 32) (x y : EReal) :
    Scalar.select (IntOp.cmpi .eq a b) x y = if a = b then x else y := by
  by_cases h : a = b
  · simp [Scalar.select, IntOp.cmpi, h]
  · have e : (a == b) = false := by simp [h]
    simp [Scalar.select, IntOp.cmpi, h, e]

/-- The first layer on the 64 rows of the block. -/
theorem main_rows_at (x : Vec Ideal S1x256x64x128 .f32) (mn : Vec Ideal S1x64x128 .f32) (m8 : Vec Ideal S1x8x8192 .f32)
    (w : Vec Ideal S64x256 .bf16) (b : Vec Ideal S64x1 .f32) (k : Fin 64) (q : Fin 8192) :
    k0_pay4 (F := Ideal) x mn m8 w b (ix2 k q)
      = max (∑ i : Fin 256, w (ix2 k i) * (x (ix4 0 i ⟨q.val / 128, by omega⟩ ⟨q.val % 128, by omega⟩)
            * mn (ix3 0 ⟨q.val / 128, by omega⟩ ⟨q.val % 128, by omega⟩)) + b (ix2 k 0)) 0
          * m8 (ix3 0 ⟨k.val % 8, by omega⟩ q) := by
  pointwise [k0_pay4, k0_pay2, k0_pay3]

/-- The first layer on the row above the block; zero in the top block of an image. -/
theorem up_row_at (a : BitVec 32) (x : Vec Ideal S1x256x1x128 .f32) (mn : Vec Ideal S1x1x128 .f32)
    (w : Vec Ideal S64x256 .bf16) (b : Vec Ideal S64x1 .f32) (k : Fin 64) (q : Fin 128) :
    k0_pay8 (F := Ideal) a (k0_pay5 x) (k0_pay7 mn) w b (ix2 k q)
      = if a = 0#32 then 0 else max (∑ i : Fin 256, w (ix2 k i) * (x (ix4 0 i 0 q) * mn (ix3 0 0 q)) + b (ix2 k 0)) 0 * mn (ix3 0 0 q) := by
  pointwise [k0_pay8, k0_pay5, k0_pay7]
  exact select_eq _ _ _ _

/-- The first layer on the row below the block, times the factor that is zero in the bottom block of an image. -/
theorem down_row_at (a : BitVec 32) (x : Vec Ideal S1x256x1x128 .f32) (mn : Vec Ideal S1x1x128 .f32)
    (w : Vec Ideal S64x256 .bf16) (b : Vec Ideal S64x1 .f32) (k : Fin 64) (q : Fin 128) :
    k0_pay9 (F := Ideal) (k0_pay6 x) mn w b (ix2 k q) * k0_pay10 (F := Ideal) a (ix2 k q)
      = if a = 1#32 then 0 else max (∑ i : Fin 256, w (ix2 k i) * (x (ix4 0 i 0 q) * mn (ix3 0 0 q)) + b (ix2 k 0)) 0 * mn (ix3 0 0 q) := by
  pointwise [k0_pay9, k0_pay6, k0_pay10]
  exact select_eq _ _ _ _

/-- The 66 rows of the first layer: the row above, the block's rows, the row below. -/
theorem tall_at (v24 : FVec Ideal S64x8192 .f32) (v52 v66 v69 : FVec Ideal S64x128 .f32) (k : Fin 64) (q : Fin 8448) :
    k0_pay11 (F := Ideal) v24 v52 v66 v69 (ix2 k q)
      = if h : q.val < 128 then v52 (ix2 k ⟨q.val, h⟩)
        else if h' : q.val - 128 < 8192 then v24 (ix2 k ⟨q.val - 128, h'⟩)
        else v66 (ix2 k ⟨q.val - 128 - 8192, by omega⟩) * v69 (ix2 k ⟨q.val - 128 - 8192, by omega⟩) := by
  pointwise [k0_pay11]

/-- The column of a pixel is its position modulo 128. -/
theorem column_at (k : Fin 8) (q : Fin 8448) : k0_pay12 (ix2 k q) = BitVec.ofNat 32 (q.val % 128) := by
  pointwise [k0_pay12]
  revert q
  decide +kernel

/-- The image moved one pixel to the right, zeros entering on the left. -/
theorem right_at (v24 : FVec Ideal S64x8192 .f32) (v52 v66 v69 : FVec Ideal S64x128 .f32) (k : Fin 64) (q : Fin 8448) :
    k0_pay14 (F := Ideal) v24 v52 v66 v69 (ix2 k q)
      = if q.val % 128 = 0 then 0 else k0_pay11 (F := Ideal) v24 v52 v66 v69 (ix2 k ⟨q.val - 1, by omega⟩) := by
  pointwise [k0_pay14, k0_pay13]
  rw [column_at, select_eq]
  have e : (BitVec.ofNat 32 (q.val % 128) = 0#32) ↔ q.val % 128 = 0 := by
    rw [← BitVec.toNat_inj]; simp; omega
  by_cases h : q.val % 128 = 0
  · rw [if_pos (e.2 h), if_pos h]
  · rw [if_neg (mt e.1 h), if_neg h, dif_neg (by omega)]

/-- The image moved one pixel to the left, zeros entering on the right. -/
theorem left_at (v24 : FVec Ideal S64x8192 .f32) (v52 v66 v69 : FVec Ideal S64x128 .f32) (k : Fin 64) (q : Fin 8448) :
    k0_pay15 (F := Ideal) v24 v52 v66 v69 (ix2 k q)
      = if h : q.val % 128 = 127 then 0 else k0_pay11 (F := Ideal) v24 v52 v66 v69 (ix2 k ⟨1 + q.val, by omega⟩) := by
  pointwise [k0_pay15, k0_pay13]
  rw [column_at, select_eq]
  have e : (BitVec.ofNat 32 (q.val % 128) = 127#32) ↔ q.val % 128 = 127 := by
    rw [← BitVec.toNat_inj]; simp; omega
  by_cases h : q.val % 128 = 127
  · rw [if_pos (e.2 h), dif_pos h]
  · rw [if_neg (mt e.1 h), dif_neg h, dif_pos (by omega)]

/-- A sum over 192 columns of which three runs of 64 belong to three images is a sum over the three images of sums over 64. -/
theorem sum_three (W : Fin 192 → EReal) (R E L : Fin 64 → EReal) (T : Fin 3 → Fin 64 → EReal)
    (hR : R = T 0) (hE : E = T 1) (hL : L = T 2) :
    ∑ j : Fin 192, W j * (if h : j.val < 64 then R ⟨j.val, h⟩ else if h' : j.val - 64 < 64 then E ⟨j.val - 64, h'⟩
        else L ⟨j.val - 64 - 64, by omega⟩)
      = ∑ dx : Fin 3, ∑ i : Fin 64, W ⟨dx.val * 64 + i.val, by omega⟩ * T dx i := by
  subst hR hE hL
  rw [Fin.sum_univ_tiles 3 64 (by norm_num)]
  refine Finset.sum_congr rfl fun dx _ => Finset.sum_congr rfl fun i _ => ?_
  fin_cases dx
  · simp
  · simp
  · have h1 : ¬ 128 + i.val < 64 := by omega
    have h2 : ¬ 128 + i.val - 64 < 64 := by omega
    have h3 : 128 + i.val - 64 - 64 = i.val := by omega
    simp [h1, h2, h3]

/-- The last two layers at a pixel of the block, given what the tall image and its two shifted copies hold. -/
theorem result_at (v5 : FVec Ideal S8x8192 .f32) (E R L : FVec Ideal S64x8448 .bf16) (b2 : Vec Ideal S64x1 .f32)
    (w0 w1 w2 : Vec Ideal S1x64x192 .bf16) (w3 : Vec Ideal S256x64 .bf16) (b3 : Vec Ideal S256x1 .f32)
    (T : Fin 3 → Fin 3 → Fin 64 → EReal) (c : Fin 256) (r : Fin 64) (l : Fin 128)
    (hR : ∀ (dy : Fin 3) (i : Fin 64), R (ix2 i ⟨128 * dy.val + (r.val * 128 + l.val), by omega⟩) = T dy 0 i)
    (hE : ∀ (dy : Fin 3) (i : Fin 64), E (ix2 i ⟨128 * dy.val + (r.val * 128 + l.val), by omega⟩) = T dy 1 i)
    (hL : ∀ (dy : Fin 3) (i : Fin 64), L (ix2 i ⟨128 * dy.val + (r.val * 128 + l.val), by omega⟩) = T dy 2 i) :
    k0_pay16 (F := Ideal) v5 E R L b2 w0 w1 w2 w3 b3 (ix3 c r l)
      = ∑ k : Fin 64, w3 (ix2 c k) * (max ((((b2 (ix2 k 0)
            + ∑ dx : Fin 3, ∑ i : Fin 64, w0 (ix3 0 k ⟨dx.val * 64 + i.val, by omega⟩) * T 0 dx i)
            + ∑ dx : Fin 3, ∑ i : Fin 64, w1 (ix3 0 k ⟨dx.val * 64 + i.val, by omega⟩) * T 1 dx i)
            + ∑ dx : Fin 3, ∑ i : Fin 64, w2 (ix3 0 k ⟨dx.val * 64 + i.val, by omega⟩) * T 2 dx i)) 0
          * v5 (ix2 ⟨k.val % 8, by omega⟩ ⟨r.val * 128 + l.val, by omega⟩)) + b3 (ix2 c 0) := by
  pointwise [k0_pay16]
  have s0 := fun k : Fin 64 => sum_three (fun j => w0 (ix3 0 k j)) _ _ _ (T 0) (funext (hR 0)) (funext (hE 0)) (funext (hL 0))
  have s1 := fun k : Fin 64 => sum_three (fun j => w1 (ix3 0 k j)) _ _ _ (T 1) (funext (hR 1)) (funext (hE 1)) (funext (hL 1))
  have s2 := fun k : Fin 64 => sum_three (fun j => w2 (ix3 0 k j)) _ _ _ (T 2) (funext (hR 2)) (funext (hE 2)) (funext (hL 2))
  simp only [Fin.val_zero, Fin.val_one, Fin.val_two, Nat.mul_zero, Nat.zero_add, Nat.mul_one, Nat.reduceMul] at s0 s1 s2
  simp only [s0, s1, s2]

/-- The residual added and the sum rectified. -/
theorem rectified_at (x : Vec Ideal S1x256x64x128 .f32) (v : FVec Ideal S256x64x128 .f32) (c : Fin 256) (r : Fin 64) (l : Fin 128) :
    k0_pay1 (F := Ideal) (k0_pay2 x) v (ix4 0 c r l) = max (v (ix3 c r l) + x (ix4 0 c r l)) 0 := by
  pointwise [k0_pay1, k0_pay2]

end Cert.Block
-- ==== Proof.Final.lean ====
module

public import proofs.«01_k».proof.Proof.Entry
public import proofs.«01_k».proof.Proof.Body

/-!
The kernel's output array. Grid point `t` treats image `t / 2` and its upper or lower 64 rows, `t % 2`: the blocks it reads are
found in the arguments, the tall image of the first layer is shown to hold the bordered first layer, the second and third layers
follow, and the sixteen blocks written cover the whole array (`final`).
-/

@[expose] public section

set_option maxRecDepth 16384

noncomputable section

namespace Cert.Result

open Cert.KernelIdeal Cert.KernelIdeal.Gen Idealize.ShloMosaic Idealize.ShloMosaic.TcCoe Idealize.SL.Sem
open Idealize.ShloMosaic.Pipeline (Dat)
open Cert.Bottleneck Cert.Entry

variable (m : (ℓ : Loc nD τ sig) → Buf (Elt Ideal) ℓ) (c : Dev nD)

/-- Where each window's block lies at grid point `t`. -/
theorem idx : ∀ t : Fin cfg0.N,
    win0_0.index t = ![t.val / 2, 0, t.val % 2, 0] ∧ win0_1.index t = ![t.val / 2, 0, 8 * (t.val % 2) - 1, 0]
      ∧ win0_2.index t = ![t.val / 2, 0, 8 + 7 * (t.val % 2), 0] ∧ win0_3.index t = ![t.val / 2, t.val % 2, 0]
      ∧ win0_4.index t = ![t.val / 2, 8 * (t.val % 2) - 1, 0] ∧ win0_5.index t = ![t.val / 2, 8 + 7 * (t.val % 2), 0]
      ∧ win0_6.index t = ![t.val / 2, 0, t.val % 2] ∧ win0_7.index t = ![0, 0] ∧ win0_8.index t = ![0, 0]
      ∧ win0_9.index t = ![0, 0, 0] ∧ win0_10.index t = ![0, 0] ∧ win0_11.index t = ![0, 0] ∧ win0_12.index t = ![0, 0]
      ∧ win0_13.index t = ![t.val / 2, 0, t.val % 2, 0] :=
  (by decide +kernel : ∀ t : Fin grid0.N, _)

/-- The second grid coordinate at point `t`. -/
theorem coord (t : Fin cfg0.N) : (grid0.coords t 1).val = t.val % 2 :=
  (by decide +kernel : ∀ t : Fin grid0.N, (grid0.coords t 1).val = t.val % 2) t

/-- There are sixteen grid points. -/
theorem lt_N (t : Fin cfg0.N) : t.val < 16 := lt_of_lt_of_eq t.isLt N_0

/-- The image that grid point `t` works on. -/
def img (t : Fin cfg0.N) : Fin 8 := ⟨t.val / 2, by have := lt_N t; omega⟩

/-! ## The blocks at a grid point -/

/-- The 64 rows of the input. -/
theorem x_main_at (t : Fin cfg0.N) (i : Fin 256) (r : Fin 64) (l : Fin 128) :
    (iblk m c 0 t : Vec Ideal S1x256x64x128 .f32) (ix4 0 i r l)
      = (net m c).x (ix4 (img t) i ⟨t.val % 2 * 64 + r.val, by omega⟩ l) := by
  blk_ext [iblk, V, idx t, img]

/-- The eight rows of the input that end just above the block. -/
theorem x_up_at (t : Fin cfg0.N) (i : Fin 256) (r : Fin 8) (l : Fin 128) :
    (iblk m c 1 t : Vec Ideal S1x256x8x128 .f32) (ix4 0 i r l)
      = (net m c).x (ix4 (img t) i ⟨(8 * (t.val % 2) - 1) * 8 + r.val, by omega⟩ l) := by
  blk_ext [iblk, V, idx t, img]

/-- The eight rows of the input that start just below the block. -/
theorem x_down_at (t : Fin cfg0.N) (i : Fin 256) (r : Fin 8) (l : Fin 128) :
    (iblk m c 2 t : Vec Ideal S1x256x8x128 .f32) (ix4 0 i r l)
      = (net m c).x (ix4 (img t) i ⟨(8 + 7 * (t.val % 2)) * 8 + r.val, by omega⟩ l) := by
  blk_ext [iblk, V, idx t, img]

/-- The mask of the 64 rows. -/
theorem mask_main_at (t : Fin cfg0.N) (r : Fin 64) (l : Fin 128) :
    (iblk m c 3 t : Vec Ideal S1x64x128 .f32) (ix3 0 r l)
      = (net m c).keep (img t) ⟨t.val % 2 * 64 + r.val, by omega⟩ l := by
  rw [← pixel_mask_at]
  blk_ext [iblk, idx t, img]

/-- The mask of the eight rows above. -/
theorem mask_up_at (t : Fin cfg0.N) (r : Fin 8) (l : Fin 128) :
    (iblk m c 4 t : Vec Ideal S1x8x128 .f32) (ix3 0 r l)
      = (net m c).keep (img t) ⟨(8 * (t.val % 2) - 1) * 8 + r.val, by omega⟩ l := by
  rw [← pixel_mask_at]
  blk_ext [iblk, idx t, img]

/-- The mask of the eight rows below. -/
theorem mask_down_at (t : Fin cfg0.N) (r : Fin 8) (l : Fin 128) :
    (iblk m c 5 t : Vec Ideal S1x8x128 .f32) (ix3 0 r l)
      = (net m c).keep (img t) ⟨(8 + 7 * (t.val % 2)) * 8 + r.val, by omega⟩ l := by
  rw [← pixel_mask_at]
  blk_ext [iblk, idx t, img]

/-- The mask of the 64 rows laid out in one row. -/
theorem mask_row_at (t : Fin cfg0.N) (k : Fin 8) (q : Fin 8192) :
    (iblk m c 6 t : Vec Ideal S1x8x8192 .f32) (ix3 0 k q)
      = (net m c).keep (img t) ⟨t.val % 2 * 64 + q.val / 128, by omega⟩ ⟨q.val % 128, by omega⟩ := by
  have e : (net m c).keep (img t) ⟨t.val % 2 * 64 + q.val / 128, by omega⟩ ⟨q.val % 128, by omega⟩
      = (V m c main_v48 : FVec Ideal S8x8x16384 .f32) (ix3 (img t) k ⟨t.val % 2 * 8192 + q.val, by omega⟩) := by
    rw [row_mask_at]
    exact congrArg₂ ((net m c).keep (img t)) (Fin.ext (by simp only; omega)) (Fin.ext (by simp only; omega))
  rw [e]
  blk_ext [iblk, idx t, img]

/-- The first layer's folded weights. -/
theorem w1_blk_at (t : Fin cfg0.N) (k : Fin 64) (i : Fin 256) :
    (iblk m c 7 t : Vec Ideal S64x256 .bf16) (ix2 k i) = (net m c).w1 (ix4 k i 0 0) * (net m c).s1 k := by
  rw [← w1_at]
  blk_ext [iblk, idx t]

/-- The first layer's folded offsets. -/
theorem b1_blk_at (t : Fin cfg0.N) (k : Fin 64) :
    (iblk m c 8 t : Vec Ideal S64x1 .f32) (ix2 k 0) = (net m c).b1 (ix1 k) - (net m c).m1 (ix1 k) * (net m c).s1 k := by
  rw [← b1_at]
  blk_ext [iblk, idx t]

/-- The second layer's folded weights. -/
theorem w2_blk_at (t : Fin cfg0.N) (dy : Fin 3) (k : Fin 64) (dx : Fin 3) (i : Fin 64) :
    (iblk m c 9 t : Vec Ideal S3x64x192 .bf16) (ix3 dy k ⟨dx.val * 64 + i.val, by omega⟩)
      = (net m c).w2 (ix4 k i dy dx) * (net m c).s2 k := by
  have e : (net m c).w2 (ix4 k i dy dx) * (net m c).s2 k
      = (V m c main_v31 : FVec Ideal S3x64x192 .bf16) (ix3 dy k ⟨dx.val * 64 + i.val, by omega⟩) := by
    rw [w2_at]
    exact congrArg (· * (net m c).s2 k) (congrArg (net m c).w2 (by idx_ext))
  rw [e]
  blk_ext [iblk, idx t]

/-- The second layer's folded offsets. -/
theorem b2_blk_at (t : Fin cfg0.N) (k : Fin 64) :
    (iblk m c 10 t : Vec Ideal S64x1 .f32) (ix2 k 0) = (net m c).b2 (ix1 k) - (net m c).m2 (ix1 k) * (net m c).s2 k := by
  rw [← b2_at]
  blk_ext [iblk, idx t]

/-- The third layer's folded weights. -/
theorem w3_blk_at (t : Fin cfg0.N) (k : Fin 256) (i : Fin 64) :
    (iblk m c 11 t : Vec Ideal S256x64 .bf16) (ix2 k i) = (net m c).w3 (ix4 k i 0 0) * (net m c).s3 k := by
  rw [← w3_at]
  blk_ext [iblk, idx t]

/-- The third layer's folded offsets. -/
theorem b3_blk_at (t : Fin cfg0.N) (k : Fin 256) :
    (iblk m c 12 t : Vec Ideal S256x1 .f32) (ix2 k 0) = (net m c).b3 (ix1 k) - (net m c).m3 (ix1 k) * (net m c).s3 k := by
  rw [← b3_at]
  blk_ext [iblk, idx t]

/-! ## The first layer on the block's rows and on its two neighbours -/

/-- The rows of the block. -/
theorem main_val (t : Fin cfg0.N) (k : Fin 64) (q : Fin 8192) :
    k0_pay4 (F := Ideal) (iblk m c 0 t) (iblk m c 3 t) (iblk m c 6 t) (iblk m c 7 t) (iblk m c 8 t) (ix2 k q)
      = (net m c).k1 (img t) k ⟨t.val % 2 * 64 + q.val / 128, by omega⟩ ⟨q.val % 128, by omega⟩ := by
  rw [Block.main_rows_at, mask_row_at, b1_blk_at]
  simp only [x_main_at, mask_main_at, w1_blk_at]
  rfl

/-- The last of eight loaded rows. -/
theorem last_row (x : Vec Ideal S1x256x8x128 .f32) (i : Fin 256) (q : Fin 128) :
    (View.ld x r0_5 : Vec Ideal S1x256x1x128 .f32) (ix4 0 i 0 q) = x (ix4 0 i 7 q) := by
  pointwise

/-- The first of eight loaded rows. -/
theorem first_row (x : Vec Ideal S1x256x8x128 .f32) (i : Fin 256) (q : Fin 128) :
    (View.ld x r0_6 : Vec Ideal S1x256x1x128 .f32) (ix4 0 i 0 q) = x (ix4 0 i 0 q) := by
  pointwise

/-- The last of eight rows of the mask. -/
theorem last_mask_row (x : Vec Ideal S1x8x128 .f32) (q : Fin 128) :
    (View.ld x r0_7 : Vec Ideal S1x1x128 .f32) (ix3 0 0 q) = x (ix3 0 7 q) := by
  pointwise

/-- The first of eight rows of the mask. -/
theorem first_mask_row (x : Vec Ideal S1x8x128 .f32) (q : Fin 128) :
    (View.ld x r0_8 : Vec Ideal S1x1x128 .f32) (ix3 0 0 q) = x (ix3 0 0 q) := by
  pointwise

/-- The row above the block. -/
theorem up_val (t : Fin cfg0.N) (a : BitVec 32) (k : Fin 64) (q : Fin 128) :
    k0_pay8 (F := Ideal) a (k0_pay5 (View.ld (iblk m c 1 t) r0_5)) (k0_pay7 (View.ld (iblk m c 4 t) r0_7)) (iblk m c 7 t) (iblk m c 8 t) (ix2 k q)
      = if a = 0#32 then 0 else (net m c).k1 (img t) k ⟨(8 * (t.val % 2) - 1) * 8 + (7 : Fin 8).val, by omega⟩ q := by
  rw [Block.up_row_at, last_mask_row, mask_up_at, b1_blk_at]
  unfold Net.k1
  refine if_congr Iff.rfl rfl (congrArg (fun z => max (z + _) 0 * _) (Finset.sum_congr rfl fun i _ => ?_))
  rw [last_row, x_up_at, w1_blk_at]

/-- The row below the block. -/
theorem down_val (t : Fin cfg0.N) (a : BitVec 32) (k : Fin 64) (q : Fin 128) :
    k0_pay9 (F := Ideal) (k0_pay6 (View.ld (iblk m c 2 t) r0_6)) (View.ld (iblk m c 5 t) r0_8) (iblk m c 7 t) (iblk m c 8 t) (ix2 k q)
        * k0_pay10 (F := Ideal) a (ix2 k q)
      = if a = 1#32 then 0 else (net m c).k1 (img t) k ⟨(8 + 7 * (t.val % 2)) * 8 + (0 : Fin 8).val, by omega⟩ q := by
  rw [Block.down_row_at, first_mask_row, mask_down_at, b1_blk_at]
  unfold Net.k1
  refine if_congr Iff.rfl rfl (congrArg (fun z => max (z + _) 0 * _) (Finset.sum_congr rfl fun i _ => ?_))
  rw [first_row, x_down_at, w1_blk_at]

/-! ## The tall image and its two shifted copies -/

/-- A bordered image inside the border. -/
theorem bordered_inside (f : Fin 128 → Fin 128 → EReal) (i j : ℕ) (h w : Fin 128) (hi : i = h.val + 1) (hj : j = w.val + 1) :
    bordered f i j = f h w := by
  subst hi hj
  rw [bordered, dif_pos ⟨⟨by omega, by omega⟩, by omega, by omega⟩]
  rfl

/-- A bordered image on the border. -/
theorem bordered_outside (f : Fin 128 → Fin 128 → EReal) (i j : ℕ) (h : i = 0 ∨ 128 < i ∨ j = 0 ∨ 128 < j) :
    bordered f i j = 0 := by
  rw [bordered, dif_neg (by omega)]

/-- The 66 rows of the first layer at grid point `t`. -/
def tall (t : Fin cfg0.N) : FVec Ideal S64x8448 .bf16 :=
  k0_pay11 (F := Ideal)
    (k0_pay17 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))
    (k0_pay18 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))
    (k0_pay19 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))
    (k0_pay20 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))

/-- The row counter's word is zero exactly at the upper half of an image. -/
theorem word_eq_zero (t : Fin cfg0.N) : BitVec.ofNat 32 (grid0.coords t 1).val = 0#32 ↔ t.val % 2 = 0 := by
  rw [coord, ← BitVec.toNat_inj]; simp; omega

/-- The row counter's word is one exactly at the lower half of an image. -/
theorem word_eq_one (t : Fin cfg0.N) : BitVec.ofNat 32 (grid0.coords t 1).val = 1#32 ↔ t.val % 2 = 1 := by
  rw [coord, ← BitVec.toNat_inj]; simp; omega

/-- The tall image holds rows of the bordered first layer, without its two border columns. -/
theorem tall_val (t : Fin cfg0.N) (k : Fin 64) (q : Fin 8448) :
    tall m c t (ix2 k q) = bordered ((net m c).k1 (img t) k) (t.val % 2 * 64 + q.val / 128) (q.val % 128 + 1) := by
  unfold tall k0_pay17 k0_pay18 k0_pay19 k0_pay20
  rw [Block.tall_at]
  split
  · frame_out
    refine (up_val m c t _ k _).trans ?_
    simp only [word_eq_zero]
    split
    · rw [bordered_outside _ _ _ (by omega)]
    · exact (bordered_inside _ _ _ _ _ (by simp only; omega) (by simp only; omega)).symm
  · split
    · frame_out
      refine (main_val m c t k _).trans ?_
      exact (bordered_inside _ _ _ _ _ (by simp only; omega) (by simp only; omega)).symm
    · frame_out
      refine (down_val m c t _ k _).trans ?_
      simp only [word_eq_one]
      split
      · rw [bordered_outside _ _ _ (by omega)]
      · exact (bordered_inside _ _ _ _ _ (by simp only; omega) (by simp only; omega)).symm

/-- The tall image moved right: column offset 0 of the bordered first layer. -/
theorem right_val (t : Fin cfg0.N) (k : Fin 64) (q : Fin 8448) :
    (if q.val % 128 = 0 then 0 else tall m c t (ix2 k ⟨q.val - 1, by omega⟩) : EReal)
      = bordered ((net m c).k1 (img t) k) (t.val % 2 * 64 + q.val / 128) (q.val % 128) := by
  split
  · rw [bordered_outside _ _ _ (by omega)]
  · rw [tall_val]
    congr 1 <;> simp only <;> omega

/-- The tall image moved left: column offset 2 of the bordered first layer. -/
theorem left_val (t : Fin cfg0.N) (k : Fin 64) (q : Fin 8448) :
    (if h : q.val % 128 = 127 then 0 else tall m c t (ix2 k ⟨1 + q.val, by omega⟩) : EReal)
      = bordered ((net m c).k1 (img t) k) (t.val % 2 * 64 + q.val / 128) (q.val % 128 + 2) := by
  split
  · rw [bordered_outside _ _ _ (by omega)]
  · rw [tall_val]
    congr 1 <;> simp only <;> omega

/-- The sum over the nine taps in the kernel's order. -/
theorem taps (o : EReal) (f : Fin 3 → EReal) : ((o + f 0) + f 1) + f 2 = ∑ dy : Fin 3, f dy + o := by
  rw [Fin.sum_univ_three]
  ac_rfl

/-- The three row offsets of the second layer's weights. -/
theorem weights_0 (x : Vec Ideal S3x64x192 .bf16) (k : Fin 64) (j : Fin 192) :
    (View.ld x r0_9 : Vec Ideal S1x64x192 .bf16) (ix3 0 k j) = x (ix3 0 k j) := by
  pointwise
@[inherit_doc weights_0] theorem weights_1 (x : Vec Ideal S3x64x192 .bf16) (k : Fin 64) (j : Fin 192) :
    (View.ld x r0_10 : Vec Ideal S1x64x192 .bf16) (ix3 0 k j) = x (ix3 1 k j) := by
  pointwise
@[inherit_doc weights_0] theorem weights_2 (x : Vec Ideal S3x64x192 .bf16) (k : Fin 64) (j : Fin 192) :
    (View.ld x r0_11 : Vec Ideal S1x64x192 .bf16) (ix3 0 k j) = x (ix3 2 k j) := by
  pointwise

/-- The mask block without its leading axis. -/
theorem mask_flat (x : Vec Ideal S1x8x8192 .f32) (k : Fin 8) (q : Fin 8192) :
    k0_pay3 (F := Ideal) x (ix2 k q) = x (ix3 0 k q) := by
  pointwise [k0_pay3]

/-- The second layer at a pixel of the block. -/
theorem second_val (t : Fin cfg0.N) (k : Fin 64) (r : Fin 64) (l : Fin 128) (W0 W1 W2 : Fin 3 → Fin 64 → EReal) (o mk : EReal)
    (h0 : ∀ dx i, W0 dx i = (net m c).w2 (ix4 k i 0 dx) * (net m c).s2 k)
    (h1 : ∀ dx i, W1 dx i = (net m c).w2 (ix4 k i 1 dx) * (net m c).s2 k)
    (h2 : ∀ dx i, W2 dx i = (net m c).w2 (ix4 k i 2 dx) * (net m c).s2 k)
    (ho : o = (net m c).b2 (ix1 k) - (net m c).m2 (ix1 k) * (net m c).s2 k)
    (hm : mk = (net m c).keep (img t) ⟨t.val % 2 * 64 + r.val, by omega⟩ l) :
    max ((((o
        + ∑ dx : Fin 3, ∑ i : Fin 64, W0 dx i * bordered ((net m c).k1 (img t) i) ((0 : Fin 3).val + (t.val % 2 * 64 + r.val)) (dx.val + l.val))
        + ∑ dx : Fin 3, ∑ i : Fin 64, W1 dx i * bordered ((net m c).k1 (img t) i) ((1 : Fin 3).val + (t.val % 2 * 64 + r.val)) (dx.val + l.val))
        + ∑ dx : Fin 3, ∑ i : Fin 64, W2 dx i * bordered ((net m c).k1 (img t) i) ((2 : Fin 3).val + (t.val % 2 * 64 + r.val)) (dx.val + l.val))) 0
      * mk = (net m c).k2 (img t) k ⟨t.val % 2 * 64 + r.val, by omega⟩ l := by
  simp only [h0, h1, h2, ho, hm]
  unfold Net.k2
  rw [← taps _ (fun dy : Fin 3 => ∑ dx : Fin 3, ∑ i : Fin 64, (net m c).w2 (ix4 k i dy dx) * (net m c).s2 k
    * bordered ((net m c).k1 (img t) i) (dy.val + (t.val % 2 * 64 + r.val)) (dx.val + l.val))]

/-- One pixel of the block that grid point `t` writes. -/
theorem point (t : Fin cfg0.N) (cc : Fin 256) (r : Fin 64) (l : Fin 128) :
    (out0_13 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) : FVec Ideal S1x256x64x128 .f32) (ix4 0 cc r l)
      = (net m c).kout (img t) cc ⟨t.val % 2 * 64 + r.val, by omega⟩ l := by
  frame_out
  refine (Block.rectified_at _ _ cc r l).trans ?_
  rw [x_main_at]
  unfold Net.kout
  refine congrArg (fun z => max (z + _) 0) ?_
  refine (Block.result_at _ _ _ _ _ _ _ _ _ _
    (fun dy dx i => bordered ((net m c).k1 (img t) i) (dy.val + (t.val % 2 * 64 + r.val)) (dx.val + l.val)) cc r l
    (fun dy i => ?_) (fun dy i => ?_) (fun dy i => ?_)).trans ?_
  · refine (Block.right_at _ _ _ _ i _).trans ((right_val m c t i _).trans ?_)
    congr 1 <;> simp <;> omega
  · refine (tall_val m c t i _).trans ?_
    congr 1 <;> simp <;> omega
  · refine (Block.left_at _ _ _ _ i _).trans ((left_val m c t i _).trans ?_)
    congr 1 <;> simp <;> omega
  · rw [b3_blk_at]
    refine congrArg (· + _) (Finset.sum_congr rfl fun k _ => ?_)
    rw [w3_blk_at]
    refine congrArg (_ * ·) (second_val m c t k r l _ _ _ _ _ (fun dx i => ?_) (fun dx i => ?_) (fun dx i => ?_) (b2_blk_at m c t k) ?_)
    · exact (weights_0 _ k _).trans (w2_blk_at m c t 0 k dx i)
    · exact (weights_1 _ k _).trans (w2_blk_at m c t 1 k dx i)
    · exact (weights_2 _ k _).trans (w2_blk_at m c t 2 k dx i)
    · refine (mask_flat _ _ _).trans ((mask_row_at m c t _ _).trans ?_)
      exact congrArg₂ ((net m c).keep (img t)) (Fin.ext (by simp only; omega)) (Fin.ext (by simp only; omega))

/-- Where a pixel of the written block lies in the output array. -/
theorem emb_at (t : Fin cfg0.N) (cc : Fin 256) (r : Fin 64) (l : Fin 128) :
    ((win0_13.blk t).view.emb (ix4 0 cc r l) : S8x256x128x128.Idx) = ix4 (img t) cc ⟨t.val % 2 * 64 + r.val, by omega⟩ l := by
  blk_ext [idx t, img]

/-- The kernel's output array is `Net.kout` of its arguments. -/
theorem final : (dats m 0 c).arrAt 13 (cfgs 0).N = (fun j : S8x256x128x128.Idx => (net m c).kout (j 0) (j 1) (j 2) (j 3)) := by
  refine (dats m 0 c).arrAt_eq_of_covers 13 _ (by decide +kernel) fun t _ y => ?_
  blk_simp
  rw [after0_13]
  revert y
  have key : ∀ y : S1x256x64x128.Idx,
      (out0_13 (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) : FVec Ideal S1x256x64x128 .f32) y
      = (fun j : S8x256x128x128.Idx => (net m c).kout (j 0) (j 1) (j 2) (j 3)) ((win0_13.blk t).view.emb y) := by
    intro y
    idx_vars y
    obtain rfl : y0 = 0 := Subsingleton.elim _ _
    rw [emb_at]
    exact point m c t y1 y2 y3
  exact key

end Cert.Result
-- ==== Proof.Reference.lean ====
module

public import proofs.«01_k».proof.Proof.Gen.ReferenceIdeal.Run
public import proofs.«01_k».proof.Proof.Spec
public import Idealize.ShloMosaic.Lib.Pointwise

/-!
The reference read one number at a time: its result is `Net.out` of its arguments. The stages `conv1`, `norm64`, `gate64`,
`conv3`, `layer3` are the reference's own array operations, grouped; `out_eq` says that their composition is the reference.
-/

@[expose] public section

set_option maxRecDepth 16384

noncomputable section

namespace Cert.Stages

open Cert.ReferenceIdeal Cert.ReferenceIdeal.Gen Idealize.ShloMosaic Idealize.ShloMosaic.TcCoe

variable {F : FTy → Type} [FloatOps F]

/-- The 8×8 mask of each image repeated to 128×128. -/
def maskFull (mask : FVec F S8x1x8x8 .f32) : FVec F S8x1x128x128 .f32 :=
  shapeCast _ (broadcastInDim S8x1x128x8x16 ![0, 1, 2, 3] bcast_S8x1x128x8_S8x1x128x8x16_0_1_2_3
    (shapeCast _ (broadcastInDim S8x1x8x16x8 ![0, 1, 2, 4] bcast_S8x1x8x8_S8x1x8x16x8_0_1_2_4 mask)
      shapeCasts_S8x1x8x16x8_S8x1x128x8)) shapeCasts_S8x1x128x8x16_S8x1x128x128

/-- Batch normalization of 64 channels. -/
def norm64 (v : FVec F S8x64x128x128 .f32) (g b rm rv : FVec F S64 .f32) : FVec F S8x64x128x128 .f32 :=
  addf (mulf (Host.divf (subf v
      (broadcastInDim S8x64x128x128 ![0, 1, 2, 3] bcast_S1x64x1x1_S8x64x128x128_0_1_2_3 (broadcastInDim S1x64x1x1 ![1] bcast_S64_S1x64x1x1_1 rm)))
      (broadcastInDim S8x64x128x128 ![0, 1, 2, 3] bcast_S1x64x1x1_S8x64x128x128_0_1_2_3
        (Host.sqrt (addf (broadcastInDim S1x64x1x1 ![1] bcast_S64_S1x64x1x1_1 rv) (broadcastInDim S1x64x1x1 ![] bcast_S_S1x64x1x1 (constant S_ .f32 0x3727C5AC#32))))))
      (broadcastInDim S8x64x128x128 ![0, 1, 2, 3] bcast_S1x64x1x1_S8x64x128x128_0_1_2_3 (broadcastInDim S1x64x1x1 ![1] bcast_S64_S1x64x1x1_1 g)))
    (broadcastInDim S8x64x128x128 ![0, 1, 2, 3] bcast_S1x64x1x1_S8x64x128x128_0_1_2_3 (broadcastInDim S1x64x1x1 ![1] bcast_S64_S1x64x1x1_1 b))

/-- Rectify and mask 64 channels. -/
def gate64 (v : FVec F S8x64x128x128 .f32) (mask : FVec F S8x1x8x8 .f32) : FVec F S8x64x128x128 .f32 :=
  mulf (maximumf v (broadcastInDim S8x64x128x128 ![] bcast_S_S8x64x128x128 (constant S_ .f32 0x00000000#32)))
    (broadcastInDim S8x64x128x128 ![0, 1, 2, 3] bcast_S8x1x128x128_S8x64x128x128_0_1_2_3 (maskFull mask))

/-- The first layer's convolution, of the masked input. -/
def conv1 (x : FVec F S8x256x128x128 .f32) (mask : FVec F S8x1x8x8 .f32) (w : FVec F S64x256x1x1 .f32) : FVec F S8x64x128x128 .f32 :=
  transpose S8x64x128x128 [0, 3, 1, 2] (Host.dotGeneral dot_S8x256x128x128_S64x256_S8x128x128x64_1_1_023_0_n_n none
    (mulf x (broadcastInDim S8x256x128x128 ![0, 1, 2, 3] bcast_S8x1x128x128_S8x256x128x128_0_1_2_3 (maskFull mask)))
    (shapeCast _ w shapeCasts_S64x256x1x1_S64x256)) transposes_S8x128x128x64_S8x64x128x128_0_3_1_2

/-- One border of zeros around each image. -/
def padded (v : FVec F S8x64x128x128 .f32) : FVec F S8x64x130x130 .f32 :=
  pad S8x64x130x130 ![0, 0, 1, 1] ![0, 0, 1, 1] ![0, 0, 0, 0] v (sitofp .f32 (constantI S_ 32 0#32)) pads_S8x64x128x128_S8x64x130x130_000_000_110_110 h_S_

/-- The contraction of one of the nine shifted images with its 64×64 weights. -/
def tap (v : FVec F S8x64x128x128 .f32) (w : FVec F S64x64x1x1 .f32) : FVec F S8x64x128x128 .f32 :=
  transpose S8x64x128x128 [0, 3, 1, 2] (Host.dotGeneral dot_S8x64x128x128_S64x64_S8x128x128x64_1_1_023_0_n_n none v
    (shapeCast _ w shapeCasts_S64x64x1x1_S64x64)) transposes_S8x128x128x64_S8x64x128x128_0_3_1_2

/-- The second layer's convolution. -/
def conv3 (v : FVec F S8x64x128x128 .f32) (w : FVec F S64x64x3x3 .f32) : FVec F S8x64x128x128 .f32 :=
  addf (addf (addf (addf (addf (addf (addf (addf (addf (broadcastInDim S8x64x128x128 ![] bcast_S_S8x64x128x128 (constant S_ .f32 0x00000000#32))
    (tap (extractStridedSlice S8x64x128x128 ![0, 0, 0, 0] (padded v) slices_S8x64x130x130_S8x64x128x128_0_0_0_0) (extractStridedSlice S64x64x1x1 ![0, 0, 0, 0] w slices_S64x64x3x3_S64x64x1x1_0_0_0_0)))
    (tap (extractStridedSlice S8x64x128x128 ![0, 0, 0, 1] (padded v) slices_S8x64x130x130_S8x64x128x128_0_0_0_1) (extractStridedSlice S64x64x1x1 ![0, 0, 0, 1] w slices_S64x64x3x3_S64x64x1x1_0_0_0_1)))
    (tap (extractStridedSlice S8x64x128x128 ![0, 0, 0, 2] (padded v) slices_S8x64x130x130_S8x64x128x128_0_0_0_2) (extractStridedSlice S64x64x1x1 ![0, 0, 0, 2] w slices_S64x64x3x3_S64x64x1x1_0_0_0_2)))
    (tap (extractStridedSlice S8x64x128x128 ![0, 0, 1, 0] (padded v) slices_S8x64x130x130_S8x64x128x128_0_0_1_0) (extractStridedSlice S64x64x1x1 ![0, 0, 1, 0] w slices_S64x64x3x3_S64x64x1x1_0_0_1_0)))
    (tap (extractStridedSlice S8x64x128x128 ![0, 0, 1, 1] (padded v) slices_S8x64x130x130_S8x64x128x128_0_0_1_1) (extractStridedSlice S64x64x1x1 ![0, 0, 1, 1] w slices_S64x64x3x3_S64x64x1x1_0_0_1_1)))
    (tap (extractStridedSlice S8x64x128x128 ![0, 0, 1, 2] (padded v) slices_S8x64x130x130_S8x64x128x128_0_0_1_2) (extractStridedSlice S64x64x1x1 ![0, 0, 1, 2] w slices_S64x64x3x3_S64x64x1x1_0_0_1_2)))
    (tap (extractStridedSlice S8x64x128x128 ![0, 0, 2, 0] (padded v) slices_S8x64x130x130_S8x64x128x128_0_0_2_0) (extractStridedSlice S64x64x1x1 ![0, 0, 2, 0] w slices_S64x64x3x3_S64x64x1x1_0_0_2_0)))
    (tap (extractStridedSlice S8x64x128x128 ![0, 0, 2, 1] (padded v) slices_S8x64x130x130_S8x64x128x128_0_0_2_1) (extractStridedSlice S64x64x1x1 ![0, 0, 2, 1] w slices_S64x64x3x3_S64x64x1x1_0_0_2_1)))
    (tap (extractStridedSlice S8x64x128x128 ![0, 0, 2, 2] (padded v) slices_S8x64x130x130_S8x64x128x128_0_0_2_2) (extractStridedSlice S64x64x1x1 ![0, 0, 2, 2] w slices_S64x64x3x3_S64x64x1x1_0_0_2_2))

/-- The third layer with its normalization, the residual added and rectified. -/
def layer3 (x : FVec F S8x256x128x128 .f32) (v : FVec F S8x64x128x128 .f32) (w : FVec F S256x64x1x1 .f32) (g b rm rv : FVec F S256 .f32) : FVec F S8x256x128x128 .f32 :=
  maximumf (addf (addf (mulf (Host.divf (subf
      (transpose S8x256x128x128 [0, 3, 1, 2] (Host.dotGeneral dot_S8x64x128x128_S256x64_S8x128x128x256_1_1_023_0_n_n none v (shapeCast _ w shapeCasts_S256x64x1x1_S256x64)) transposes_S8x128x128x256_S8x256x128x128_0_3_1_2)
      (broadcastInDim S8x256x128x128 ![0, 1, 2, 3] bcast_S1x256x1x1_S8x256x128x128_0_1_2_3 (broadcastInDim S1x256x1x1 ![1] bcast_S256_S1x256x1x1_1 rm)))
      (broadcastInDim S8x256x128x128 ![0, 1, 2, 3] bcast_S1x256x1x1_S8x256x128x128_0_1_2_3
        (Host.sqrt (addf (broadcastInDim S1x256x1x1 ![1] bcast_S256_S1x256x1x1_1 rv) (broadcastInDim S1x256x1x1 ![] bcast_S_S1x256x1x1 (constant S_ .f32 0x3727C5AC#32))))))
      (broadcastInDim S8x256x128x128 ![0, 1, 2, 3] bcast_S1x256x1x1_S8x256x128x128_0_1_2_3 (broadcastInDim S1x256x1x1 ![1] bcast_S256_S1x256x1x1_1 g)))
    (broadcastInDim S8x256x128x128 ![0, 1, 2, 3] bcast_S1x256x1x1_S8x256x128x128_0_1_2_3 (broadcastInDim S1x256x1x1 ![1] bcast_S256_S1x256x1x1_1 b))) x)
    (broadcastInDim S8x256x128x128 ![] bcast_S_S8x256x128x128 (constant S_ .f32 0x00000000#32))

/-- The reference's result is the composition of the stages. -/
theorem out_eq (m : (ℓ : Loc nD τ sig) → Buf (Elt F) ℓ) (c : Dev nD) :
    Cert.ReferenceIdeal.Value.res_main_v120 m c
      = layer3 (m ((c : Thread nD τ).loc main_arg0))
        (gate64 (norm64 (conv3 (gate64 (norm64 (conv1 (m ((c : Thread nD τ).loc main_arg0)) (m ((c : Thread nD τ).loc main_arg1)) (m ((c : Thread nD τ).loc main_arg2)))
            (m ((c : Thread nD τ).loc main_arg3)) (m ((c : Thread nD τ).loc main_arg4)) (m ((c : Thread nD τ).loc main_arg5)) (m ((c : Thread nD τ).loc main_arg6))) (m ((c : Thread nD τ).loc main_arg1)))
            (m ((c : Thread nD τ).loc main_arg7)))
            (m ((c : Thread nD τ).loc main_arg8)) (m ((c : Thread nD τ).loc main_arg9)) (m ((c : Thread nD τ).loc main_arg10)) (m ((c : Thread nD τ).loc main_arg11))) (m ((c : Thread nD τ).loc main_arg1)))
        (m ((c : Thread nD τ).loc main_arg12)) (m ((c : Thread nD τ).loc main_arg13)) (m ((c : Thread nD τ).loc main_arg14)) (m ((c : Thread nD τ).loc main_arg15)) (m ((c : Thread nD τ).loc main_arg16)) := rfl

open Cert.Bottleneck

/-- The first convolution at a pixel. -/
theorem conv1_at (x : FVec Ideal S8x256x128x128 .f32) (mask : FVec Ideal S8x1x8x8 .f32) (w : FVec Ideal S64x256x1x1 .f32)
    (b : Fin 8) (k : Fin 64) (h l : Fin 128) :
    conv1 x mask w (ix4 b k h l)
      = ∑ i : Fin 256, x (ix4 b i h l) * mask (ix4 b 0 ⟨h.val / 16, by omega⟩ ⟨l.val / 16, by omega⟩) * w (ix4 k i 0 0) := by
  pointwise [conv1, maskFull]

/-- The normalization at a pixel. -/
theorem norm64_at (v : FVec Ideal S8x64x128x128 .f32) (g bb rm rv : FVec Ideal S64 .f32) (b : Fin 8) (k : Fin 64) (h l : Fin 128) :
    norm64 v g bb rm rv (ix4 b k h l) = norm (v (ix4 b k h l)) (g (ix1 k)) (bb (ix1 k)) (rm (ix1 k)) (rv (ix1 k)) := by
  pointwise [norm64]
  rfl

/-- Rectifying and masking at a pixel. -/
theorem gate64_at (v : FVec Ideal S8x64x128x128 .f32) (mask : FVec Ideal S8x1x8x8 .f32) (b : Fin 8) (k : Fin 64) (h l : Fin 128) :
    gate64 v mask (ix4 b k h l) = max (v (ix4 b k h l)) 0 * mask (ix4 b 0 ⟨h.val / 16, by omega⟩ ⟨l.val / 16, by omega⟩) := by
  pointwise [gate64, maskFull]

/-- The padded images are the images with a border of zeros. -/
theorem padded_at (v : FVec Ideal S8x64x128x128 .f32) (b : Fin 8) (k : Fin 64) (h l : Fin 130) :
    padded v (ix4 b k h l) = bordered (fun i j => v (ix4 b k i j)) h.val l.val := by
  pointwise [padded]
  have z : (FloatOps.sitofp FTy.f32 0#32 : Ideal .f32) = 0 := by simp [FloatOps.sitofp]
  rw [z]
  rfl

/-- The second convolution at a pixel: nine taps, row offset outermost. -/
theorem conv3_at (v : FVec Ideal S8x64x128x128 .f32) (w : FVec Ideal S64x64x3x3 .f32) (b : Fin 8) (k : Fin 64) (h l : Fin 128) :
    conv3 v w (ix4 b k h l) = ∑ dy : Fin 3, ∑ dx : Fin 3, ∑ i : Fin 64,
      bordered (fun p q => v (ix4 b i p q)) (dy.val + h.val) (dx.val + l.val) * w (ix4 k i dy dx) := by
  pointwise [conv3, tap]
  simp only [padded_at, Fin.sum_univ_three]
  simp only [Fin.val_zero, Fin.val_one, Fin.val_two, zero_add, ← add_assoc]

/-- The third layer at a pixel. -/
theorem layer3_at (x : FVec Ideal S8x256x128x128 .f32) (v : FVec Ideal S8x64x128x128 .f32) (w : FVec Ideal S256x64x1x1 .f32)
    (g bb rm rv : FVec Ideal S256 .f32) (b : Fin 8) (k : Fin 256) (h l : Fin 128) :
    layer3 x v w g bb rm rv (ix4 b k h l)
      = max (norm (∑ i : Fin 64, v (ix4 b i h l) * w (ix4 k i 0 0)) (g (ix1 k)) (bb (ix1 k)) (rm (ix1 k)) (rv (ix1 k))
          + x (ix4 b k h l)) 0 := by
  pointwise [layer3]
  rfl

variable (m : (ℓ : Loc nD τ sig) → Buf (Elt Ideal) ℓ) (c : Dev nD)

/-- The reference's arguments. -/
def net : Net where
  x := m ((c : Thread nD τ).loc main_arg0)
  mask := m ((c : Thread nD τ).loc main_arg1)
  w1 := m ((c : Thread nD τ).loc main_arg2)
  g1 := m ((c : Thread nD τ).loc main_arg3)
  b1 := m ((c : Thread nD τ).loc main_arg4)
  m1 := m ((c : Thread nD τ).loc main_arg5)
  v1 := m ((c : Thread nD τ).loc main_arg6)
  w2 := m ((c : Thread nD τ).loc main_arg7)
  g2 := m ((c : Thread nD τ).loc main_arg8)
  b2 := m ((c : Thread nD τ).loc main_arg9)
  m2 := m ((c : Thread nD τ).loc main_arg10)
  v2 := m ((c : Thread nD τ).loc main_arg11)
  w3 := m ((c : Thread nD τ).loc main_arg12)
  g3 := m ((c : Thread nD τ).loc main_arg13)
  b3 := m ((c : Thread nD τ).loc main_arg14)
  m3 := m ((c : Thread nD τ).loc main_arg15)
  v3 := m ((c : Thread nD τ).loc main_arg16)

/-- The reference's result at a pixel is `Net.out` of its arguments. -/
theorem out_at (b : Fin 8) (k : Fin 256) (h l : Fin 128) :
    Cert.ReferenceIdeal.Value.res_main_v120 m c (ix4 b k h l) = (net m c).out b k h l := by
  rw [out_eq, layer3_at]
  simp only [gate64_at, norm64_at, conv3_at, conv1_at]
  rfl

end Cert.Stages
-- ==== Proof.Precondition.lean ====
module

public import proofs.«01_k».proof.Defs
public import proofs.«01_k».proof.Proof.Entry
public import Idealize.ShloMosaic.Lib.ReduceAll
public import Idealize.ShloMosaic.Lib.Decide

/-!
The precondition read back: when the predicate `tame` of the kernel's arguments comes out true, no running variance plus the
stabiliser is zero, and every other float argument but the last layer's mean and offset is an array of real numbers.
-/

@[expose] public section

noncomputable section

namespace Cert.Precondition

open Idealize.ShloMosaic Idealize.ShloMosaic.TcCoe
open Cert.Bottleneck Cert.Pre_tame

/-- The shape relations that the predicate's operations take hold at its sizes. -/
theorem facts : Cert.Pre_tame.Facts where
  bcast_S_S8x256x128x128 := by decide
  reducesTo_S8x256x128x128_S_d0_1_2_3 := by decide
  h_S_ := by decide
  bcast_S_S8x1x8x8 := by decide
  reducesTo_S8x1x8x8_S_d0_1_2_3 := by decide
  bcast_S_S64x256x1x1 := by decide
  reducesTo_S64x256x1x1_S_d0_1_2_3 := by decide
  bcast_S_S64 := by decide
  reducesTo_S64_S_d0 := by decide
  bcast_S_S64x64x3x3 := by decide
  reducesTo_S64x64x3x3_S_d0_1_2_3 := by decide
  bcast_S_S256x64x1x1 := by decide
  reducesTo_S256x64x1x1_S_d0_1_2_3 := by decide
  bcast_S_S256 := by decide
  reducesTo_S256_S_d0 := by decide

/-- The single cell of a scalar. -/
abbrev cell : S_.Idx := fun d => d.elim0

/-- A scalar has one cell. -/
theorem one_cell : Subsingleton S_.Idx := ⟨fun a b => funext fun d => d.elim0⟩

/-- A conjunction of two scalars that is true has both of them true. -/
theorem both {a b : IVec S_ 1} (h : andi a b cell = 1#1) : a cell = 1#1 ∧ b cell = 1#1 := IntOp.andi_eq_one.1 h

/-- A truth value whose bit is 1 is true. -/
theorem holds {p : Prop} [Decidable p] (h : BitVec.ofBool (decide p) = 1#1) : p := by
  by_contra hp
  rw [decide_eq_false hp] at h
  exact absurd h (by decide)

/-- The pattern of the single-precision infinity denotes infinity. -/
theorem inf_bits : Ideal.ofBits .f32 0x7F800000#32 = ⊤ := by
  unfold Ideal.ofBits Ideal.ieee
  dsimp only
  rw [if_pos (by decide), if_pos (by decide), if_neg (by decide)]

/-- An extended real whose absolute value lies below infinity is real. -/
theorem real_of_abs_lt {x : EReal} (h : max x (-x) < ⊤) : IsReal x := by
  induction x with
  | bot => simp at h
  | coe r => exact ⟨r, rfl⟩
  | top => simp at h

/-- The test that all elements have an absolute value below infinity, passed, says that all elements are real. -/
theorem finite {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
      (constantI S_ 1 1#1) hr hu cell = 1#1) (i : s.Idx) : IsReal (x i) := by
  haveI := one_cell
  have h := Host.reduce_andi_all _ _ hr hu cell e i
  change Ideal.cmp .olt (max (x i) (-(x i))) (Ideal.ofBits .f32 0x7F800000#32) = 1#1 at h
  rw [inf_bits] at h
  exact real_of_abs_lt (holds h)

/-- The test that no element plus the stabiliser is zero, passed, says so of every element. -/
theorem nonzero {s : Shape} {axes : List (Fin s.rank)} (x : FVec Ideal s .f32) (hb hb' : S_.BroadcastsInDim s (![] : Fin 0 → Fin s.rank))
    (hr : s.ReducesTo axes S_) (hu : 0 < S_.numel)
    (e : Host.reduce IntOp.andi (cmpf .une (addf x (broadcastInDim s ![] hb (constant S_ .f32 0x3727C5AC#32)))
      (broadcastInDim s ![] hb' (constant S_ .f32 0x00000000#32))) (constantI S_ 1 1#1) hr hu cell = 1#1) (i : s.Idx) :
    x i + eps ≠ 0 := by
  haveI := one_cell
  have h := Host.reduce_andi_all _ _ hr hu cell e i
  change Ideal.cmp .une (x i + eps) (Ideal.ofBits .f32 0x00000000#32) = 1#1 at h
  have hz : Ideal.ofBits .f32 0x00000000#32 = 0 := by simp
  rw [hz] at h
  exact holds h

/-- Under the precondition the kernel's arguments form a tame network. -/
theorem tame (m : (ℓ : Loc Cert.KernelIdeal.nD Cert.KernelIdeal.τ Cert.KernelIdeal.sig) → Buf (Elt Ideal) ℓ)
    (h : Cert.Pre_KernelIdeal_tame (hPre_tame := facts) m) (c : Dev Cert.KernelIdeal.nD) : (Cert.Entry.net m c).Tame := by
  have e := congrFun (h c) cell
  simp only [fn, fn_part1, fn_part2, fn_part3, fn_part4] at e
  obtain ⟨e, p3⟩ := both e
  obtain ⟨e, p2⟩ := both e
  obtain ⟨e, p1⟩ := both e
  obtain ⟨e, f13⟩ := both e
  obtain ⟨e, f12⟩ := both e
  obtain ⟨e, f10⟩ := both e
  obtain ⟨e, f9⟩ := both e
  obtain ⟨e, f8⟩ := both e
  obtain ⟨e, f7⟩ := both e
  obtain ⟨e, f5⟩ := both e
  obtain ⟨e, f4⟩ := both e
  obtain ⟨e, f3⟩ := both e
  obtain ⟨e, f2⟩ := both e
  obtain ⟨e, f1⟩ := both e
  obtain ⟨-, f0⟩ := both e
  exact {
    x := finite _ _ _ _ f0
    mask := finite _ _ _ _ f1
    w1 := finite _ _ _ _ f2
    g1 := finite _ _ _ _ f3
    b1 := finite _ _ _ _ f4
    m1 := finite _ _ _ _ f5
    w2 := finite _ _ _ _ f7
    g2 := finite _ _ _ _ f8
    b2 := finite _ _ _ _ f9
    m2 := finite _ _ _ _ f10
    w3 := finite _ _ _ _ f12
    g3 := finite _ _ _ _ f13
    spread1 := nonzero _ _ _ _ _ p1
    spread2 := nonzero _ _ _ _ _ p2
    spread3 := nonzero _ _ _ _ _ p3 }

end Cert.Precondition

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Final
public import proofs.«01_k».proof.Proof.Reference
public import proofs.«01_k».proof.Proof.Precondition
public import Idealize.ShloMosaic.Adequacy
public import Idealize.ShloMosaic.Init

/-!
The certificate. The kernel, the kernel over the extended reals and the reference over the extended reals all run to the end
without a fault, leave their arguments as they were and every semaphore at zero; and from tame arguments the kernel and the
reference end with the same result.
-/

@[expose] public section

noncomputable section

namespace Cert.Proof

open Idealize.ShloMosaic Idealize.ShloMosaic.TcCoe Idealize.SL.Sem

/-- The kernel as written runs, keeps its arguments and leaves its semaphores at zero. -/
theorem frame_kernel : Cert.quiescent_Kernel := fun m ρ _ => Cert.Kernel.Gen.frame m ρ

/-- The kernel over the extended reals runs, keeps its arguments and leaves its semaphores at zero. -/
theorem frame_ideal : Cert.quiescent_KernelIdeal := fun m ρ _ => Cert.KernelIdeal.Gen.frame m ρ

/-- The same from tame arguments only. -/
theorem frame_ideal_tame : Cert.quiescent_KernelIdeal_pre_tame (hPre_tame := Cert.Precondition.facts) :=
  fun m ρ _ => Cert.KernelIdeal.Gen.frame m ρ

/-- The reference over the extended reals runs and keeps its arguments; it has no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from tame arguments only. -/
theorem frame_reference_tame : Cert.quiescent_ReferenceIdeal_pre_tame (hPre_tame := Cert.Precondition.facts) :=
  fun m ρ _ => frame_reference m ρ trivial

/-- Memories that agree on the arguments describe the same network. -/
theorem same_net (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.Stages.net m' c = Cert.Entry.net m c := by
  unfold Cert.Stages.net Cert.Entry.net
  rw [h0, h1, h2, h3, h4, h5, h6, h7, h8, h9, h10, h11, h12, h13, h14, h15, h16]

/-- The result that both programs compute: the network's output at every pixel. -/
def result (A : Cert.Bottleneck.Net) : Cert.KernelIdeal.S8x256x128x128.Idx → EReal := fun j => A.out (j 0) (j 1) (j 2) (j 3)

/-- From tame arguments the kernel's result array is the network's output. -/
theorem kernel_result (m : (ℓ : Loc Cert.KernelIdeal.nD Cert.KernelIdeal.τ Cert.KernelIdeal.sig) → Buf (Elt Ideal) ℓ)
    (h : Cert.Pre_KernelIdeal_tame (hPre_tame := Cert.Precondition.facts) m) (c : Dev Cert.KernelIdeal.nD) :
    (Cert.KernelIdeal.Gen.dats m 0 c).arrAt 13 (Cert.KernelIdeal.cfgs 0).N = result (Cert.Entry.net m c) :=
  (Cert.Result.final m c).trans (funext fun j => Cert.Bottleneck.Net.kout_eq (Cert.Precondition.tame m h c) (j 0) (j 1) (j 2) (j 3))

/-- The reference's result array is the network's output. -/
theorem reference_result (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v120 m c = result (Cert.Stages.net m c) := by
  funext j
  idx_vars j
  exact Cert.Stages.out_at m c _ _ _ _

/-- From memories that agree on tame arguments the kernel and the reference end with equal results. -/
theorem equal : Cert.algebraic_KernelIdeal_ReferenceIdeal_pre_tame (hPre_tame := Cert.Precondition.facts) := by
  intro m ρ m' ρ' hp hagree
  refine ⟨fun c => result (Cert.Entry.net m c),
    (θ_run Cert.KernelIdeal.defs _ _).mono (fun r h c => ⟨(h c).1.trans (kernel_result m hp c), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨h0, h1, h2, h3, h4, h5, h6, h7, h8, h9, h10, h11, h12, h13, h14, h15, h16, -⟩ := hagree c
  exact (reference_result m' c).trans
    (congrArg result (same_net m m' c h0 h1 h2 h3 h4 h5 h6 h7 h8 h9 h10 h11 h12 h13 h14 h15 h16))

/-- Everything the certificate claims. -/
theorem claim : Cert.Claim :=
  ⟨Cert.Kernel.Gen.facts, Cert.KernelIdeal.Gen.facts, Cert.ReferenceIdeal.Gen.facts, Cert.Precondition.facts,
    frame_kernel, frame_ideal, frame_ideal_tame, frame_reference, frame_reference_tame, trivial, equal⟩

end Cert.Proof

end
